-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_WholeIdeal (m : (ℓ : Loc Cert.WholeIdeal.nD Cert.WholeIdeal.τ Cert.WholeIdeal.sig) → Buf (Elt Ideal) ℓ) : Prop :=
  True

def Pre_WholeReferenceIdeal (m : (ℓ : Loc Cert.WholeReferenceIdeal.nD Cert.WholeReferenceIdeal.τ Cert.WholeReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def disproves_algebraic_WholeIdeal_WholeReferenceIdeal [hWholeIdeal : Cert.WholeIdeal.Facts] [hWholeReferenceIdeal : Cert.WholeReferenceIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg),
    (∀ c : Dev Cert.WholeIdeal.nD,
      m ((c.tc : Thread Cert.WholeIdeal.nD Cert.WholeIdeal.τ).loc Cert.WholeIdeal.main_arg0) = Cert.Cx_WholeIdeal.arg0 (F := Ideal)
      ∧ m ((c.tc : Thread Cert.WholeIdeal.nD Cert.WholeIdeal.τ).loc Cert.WholeIdeal.main_arg1) = Cert.Cx_WholeIdeal.arg1 (F := Ideal)
      ∧ m ((c.tc : Thread Cert.WholeIdeal.nD Cert.WholeIdeal.τ).loc Cert.WholeIdeal.main_arg2) = Cert.Cx_WholeIdeal.arg2 (F := Ideal)) →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)) →
    Pre_WholeIdeal m
    ∧ ∃ (v0 : (c : Dev Cert.WholeIdeal.nD) → Buf (Elt Ideal) ((c.tc : Thread Cert.WholeIdeal.nD Cert.WholeIdeal.τ).loc Cert.WholeIdeal.main_v273)),
      θ_run (Cert.WholeIdeal.defs (F := Ideal)) (onTc (τ := Cert.WholeIdeal.τ) (Cert.WholeIdeal.main (F := Ideal))) ⟨m, fun _ => 0, g⟩ (fun r => ¬ (∀ c : Dev Cert.WholeIdeal.nD,
          r.2.mem ((c.tc : Thread Cert.WholeIdeal.nD Cert.WholeIdeal.τ).loc Cert.WholeIdeal.main_v273) = v0 c))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v253) = v0 c)

def Claim : Prop :=
  ∃ (hKernelIdeal : Cert.KernelIdeal.Facts) (hReferenceIdeal : Cert.ReferenceIdeal.Facts) (hWholeIdeal : Cert.WholeIdeal.Facts) (hWholeReferenceIdeal : Cert.WholeReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
    ∧ disproves_algebraic_WholeIdeal_WholeReferenceIdeal (hWholeIdeal := hWholeIdeal) (hWholeReferenceIdeal := hWholeReferenceIdeal)
-- ==== Cx_WholeIdeal.lean ====
noncomputable def arg0_words : Fin 192 → BitVec 32 :=
  ![0x3F800000#32, 0x3F800000#32, 0x3F800000#32, 0x3F800000#32, 0x3F800000#32, 0x3F800000#32, 0x3F800000#32, 0x3F800000#32,
    0x3F800000#32, 0x3F800000#32, 0x3F800000#32, 0x3F800000#32, 0x3F800000#32, 0x3F800000#32, 0x3F800000#32, 0x3F800000#32,
    0x3F800000#32, 0x3F800000#32, 0x3F800000#32, 0x3F800000#32, 0x3F800000#32, 0x3F800000#32, 0x3F800000#32, 0x3F800000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32,
    0x00000000#32, 0x00000000#32, 0x00000000#32, 0x00000000#32, 0x00000000#32, 0x00000000#32, 0x00000000#32, 0x00000000#32]
noncomputable def arg0 {F : FTy → Type} [FloatOps F] : FVec F (⟨1, ![192]⟩ : Shape) .f32 := fun i => FloatOps.ofBits .f32 (arg0_words (i 0))

noncomputable def arg1_words : Fin 8 → Fin 384 → BitVec 32 :=
  ![
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32],
    ![0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32,
      0x00000000#32, 0x00000000#32, 0x00000000#32, 0x00000000#32, 0x00000000#32, 0x00000000#32, 0x00000000#32, 0x00000000#32] ]
noncomputable def arg1 {F : FTy → Type} [FloatOps F] : FVec F (⟨2, ![8, 384]⟩ : Shape) .f32 := fun i => FloatOps.ofBits .f32 (arg1_words (i 0) (i 1))

noncomputable def arg2_words : Fin 24 → Fin 3 → BitVec 32 :=
  ![
    ![0x00000000#32, 0x3F800000#32, 0x00000000#32],
    ![0x00000000#32, 0x3F800000#32, 0x00000000#32],
    ![0x00000000#32, 0x3F800000#32, 0x00000000#32],
    ![0x00000000#32, 0x3F800000#32, 0x00000000#32],
    ![0x00000000#32, 0x3F800000#32, 0x00000000#32],
    ![0x00000000#32, 0x3F800000#32, 0x00000000#32],
    ![0x00000000#32, 0x3F800000#32, 0x00000000#32],
    ![0x00000000#32, 0x3F800000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32],
    ![0x00000000#32, 0x00000000#32, 0x00000000#32] ]
noncomputable def arg2 {F : FTy → Type} [FloatOps F] : FVec F (⟨2, ![24, 3]⟩ : Shape) .f32 := fun i => FloatOps.ofBits .f32 (arg2_words (i 0) (i 1))
-- ==== Pre_finite.lean ====
abbrev S4x192x56x56 : Shape := ⟨4, ![4, 192, 56, 56]⟩
abbrev S8x384 : Shape := ⟨2, ![8, 384]⟩
abbrev S1536x216 : Shape := ⟨2, ![1536, 216]⟩
abbrev S8x192 : Shape := ⟨2, ![8, 192]⟩
abbrev S_ : Shape := ⟨0, ![]⟩

class Facts : Prop where
  bcast_S_S4x192x56x56 : S_.BroadcastsInDim S4x192x56x56 (![] : Fin 0 → Fin S4x192x56x56.rank)
  bcast_S_S1536x216 : S_.BroadcastsInDim S1536x216 (![] : Fin 0 → Fin S1536x216.rank)
  bcast_S_S8x192 : S_.BroadcastsInDim S8x192 (![] : Fin 0 → Fin S8x192.rank)

variable [Facts]

def fn {F : FTy → Type} [FloatOps F] (main_arg0 : FVec F S4x192x56x56 .f32) (main_arg1 : FVec F S8x384 .f32) (main_arg2 : FVec F S1536x216 .f32) (main_arg3 : FVec F S8x192 .f32) (main_arg4 : FVec F S8x192 .f32) : IVec S4x192x56x56 1 × IVec S1536x216 1 × IVec S8x192 1 :=
  let main_v0 : FVec F S4x192x56x56 .f32 := Host.absf main_arg0
  let main_cst : FVec F S_ .f32 := constant S_ .f32 0x7F800000#32
  let main_v1 : FVec F S4x192x56x56 .f32 := broadcastInDim S4x192x56x56 ![] bcast_S_S4x192x56x56 main_cst
  let main_v2 : IVec S4x192x56x56 1 := cmpf .olt main_v0 main_v1
  let main_v3 : FVec F S1536x216 .f32 := Host.absf main_arg2
  let main_cst_0 : FVec F S_ .f32 := constant S_ .f32 0x7F800000#32
  let main_v4 : FVec F S1536x216 .f32 := broadcastInDim S1536x216 ![] bcast_S_S1536x216 main_cst_0
  let main_v5 : IVec S1536x216 1 := cmpf .olt main_v3 main_v4
  let main_v6 : FVec F S8x192 .f32 := Host.absf main_arg3
  let main_cst_1 : FVec F S_ .f32 := constant S_ .f32 0x7F800000#32
  let main_v7 : FVec F S8x192 .f32 := broadcastInDim S8x192 ![] bcast_S_S8x192 main_cst_1
  let main_v8 : IVec S8x192 1 := cmpf .olt main_v6 main_v7
  (main_v2, main_v5, main_v8)
-- ==== KernelIdeal.lean ====
abbrev S4x192x56x56 : Shape := ⟨4, ![4, 192, 56, 56]⟩
abbrev S8x384 : Shape := ⟨2, ![8, 384]⟩
abbrev S1536x216 : Shape := ⟨2, ![1536, 216]⟩
abbrev S8x192 : Shape := ⟨2, ![8, 192]⟩
abbrev S4x192x3136 : Shape := ⟨3, ![4, 192, 3136]⟩
abbrev S192x8 : Shape := ⟨2, ![192, 8]⟩
abbrev S1x192x3136 : Shape := ⟨3, ![1, 192, 3136]⟩
abbrev S24x3250 : Shape := ⟨2, ![24, 3250]⟩
abbrev S216x3136 : Shape := ⟨2, ![216, 3136]⟩
abbrev S192x3136 : Shape := ⟨2, ![192, 3136]⟩
abbrev S192 : Shape := ⟨1, ![192]⟩
abbrev S192x1 : Shape := ⟨2, ![192, 1]⟩
abbrev S8x1 : Shape := ⟨2, ![8, 1]⟩
abbrev S1x8x1 : Shape := ⟨3, ![1, 8, 1]⟩
abbrev S1 : Shape := ⟨1, ![1]⟩
abbrev S1x1x1 : Shape := ⟨3, ![1, 1, 1]⟩
abbrev S1x3136 : Shape := ⟨2, ![1, 3136]⟩
abbrev S1x24x3136 : Shape := ⟨3, ![1, 24, 3136]⟩
abbrev S24x3136 : Shape := ⟨2, ![24, 3136]⟩
abbrev S192x216 : Shape := ⟨2, ![192, 216]⟩

abbrev nBuf : Space → Nat
  | .hbm => 10
  | .vmem => 10
  | .smem => 0
  | _ => 0

abbrev bufTy : (tb : Table) → Fin (tcTables nBuf tb) → BufTy
  | .hbm, ⟨0, _⟩ => ⟨S4x192x56x56, .f32⟩
  | .hbm, ⟨1, _⟩ => ⟨S8x384, .f32⟩
  | .hbm, ⟨2, _⟩ => ⟨S1536x216, .f32⟩
  | .hbm, ⟨3, _⟩ => ⟨S8x192, .f32⟩
  | .hbm, ⟨4, _⟩ => ⟨S8x192, .f32⟩
  | .hbm, ⟨5, _⟩ => ⟨S4x192x3136, .f32⟩
  | .hbm, ⟨6, _⟩ => ⟨S1536x216, .bf16⟩
  | .hbm, ⟨7, _⟩ => ⟨S192x8, .f32⟩
  | .hbm, ⟨8, _⟩ => ⟨S192x8, .f32⟩
  | .hbm, ⟨9, _⟩ => ⟨S4x192x3136, .f32⟩
  | .local _ .vmem, ⟨0, _⟩ => ⟨S1x192x3136, .f32⟩
  | .local _ .vmem, ⟨1, _⟩ => ⟨S1x192x3136, .f32⟩
  | .local _ .vmem, ⟨2, _⟩ => ⟨S8x384, .f32⟩
  | .local _ .vmem, ⟨3, _⟩ => ⟨S1536x216, .bf16⟩
  | .local _ .vmem, ⟨4, _⟩ => ⟨S192x8, .f32⟩
  | .local _ .vmem, ⟨5, _⟩ => ⟨S192x8, .f32⟩
  | .local _ .vmem, ⟨6, _⟩ => ⟨S1x192x3136, .f32⟩
  | .local _ .vmem, ⟨7, _⟩ => ⟨S1x192x3136, .f32⟩
  | .local _ .vmem, ⟨8, _⟩ => ⟨S24x3250, .f32⟩
  | .local _ .vmem, ⟨9, _⟩ => ⟨S216x3136, .bf16⟩
  | _, _ => ⟨S4x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def k0_off1 (v61 : BitVec 32) : Fin 3 → Nat :=
  let c0_48 : Index := 0#32
  let c24_i32_47 : BitVec 32 := 24#32
  let v160 : BitVec 32 := Scalar.muli v61 c24_i32_47
  let v161 : Index := Scalar.indexCast v160
  let c0_49 : Index := 0#32
  ![0, v161.toNat, 0]

def k0_off2 (v61 : BitVec 32) : Fin 2 → Nat :=
  let c192_i32 : BitVec 32 := 192#32
  let v224 : BitVec 32 := Scalar.muli v61 c192_i32
  let v225 : Index := Scalar.indexCast v224
  let c0_73 : Index := 0#32
  ![v225.toNat, 0]

def k0_chk1 (v61 : BitVec 32) : Prop :=
  (∀ a, (k0_off1 v61) a + S1x24x3136.size a ≤ S1x192x3136.size a) ∧
  (∀ a, (k0_off2 v61) a + S192x216.size a ≤ S1536x216.size a)
theorem k0_off1_inb : ∀ (v61 : BitVec 32) (k0_hw1 : k0_chk1 v61), ∀ a, (k0_off1 v61) a + S1x24x3136.size a ≤ S1x192x3136.size a := fun v61 k0_hw1 => k0_hw1.1
theorem k0_off2_inb : ∀ (v61 : BitVec 32) (k0_hw1 : k0_chk1 v61), ∀ a, (k0_off2 v61) a + S192x216.size a ≤ S1536x216.size a := fun v61 k0_hw1 => k0_hw1.2

def k0_off3 (v77 : BitVec 32) : Fin 3 → Nat :=
  let c0_98 : Index := 0#32
  let c24_i32_97 : BitVec 32 := 24#32
  let v275 : BitVec 32 := Scalar.muli v77 c24_i32_97
  let v276 : Index := Scalar.indexCast v275
  let c0_99 : Index := 0#32
  ![0, v276.toNat, 0]

def k0_off4 (v77 : BitVec 32) : Fin 2 → Nat :=
  let c192_i32_138 : BitVec 32 := 192#32
  let v339 : BitVec 32 := Scalar.muli v77 c192_i32_138
  let v340 : Index := Scalar.indexCast v339
  let c0_139 : Index := 0#32
  ![v340.toNat, 0]

def k0_chk2 (v77 : BitVec 32) : Prop :=
  (∀ a, (k0_off3 v77) a + S1x24x3136.size a ≤ S1x192x3136.size a) ∧
  (∀ a, (k0_off4 v77) a + S192x216.size a ≤ S1536x216.size a)
theorem k0_off3_inb : ∀ (v77 : BitVec 32) (k0_hw2 : k0_chk2 v77), ∀ a, (k0_off3 v77) a + S1x24x3136.size a ≤ S1x192x3136.size a := fun v77 k0_hw2 => k0_hw2.1
theorem k0_off4_inb : ∀ (v77 : BitVec 32) (k0_hw2 : k0_chk2 v77), ∀ a, (k0_off4 v77) a + S192x216.size a ≤ S1536x216.size a := fun v77 k0_hw2 => k0_hw2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x192x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x192x56x56 : Shape := ⟨4, ![4, 192, 56, 56]⟩
abbrev S8x384 : Shape := ⟨2, ![8, 384]⟩
abbrev S1536x216 : Shape := ⟨2, ![1536, 216]⟩
abbrev S8x192 : Shape := ⟨2, ![8, 192]⟩
abbrev S1536x3x3x24 : Shape := ⟨4, ![1536, 3, 3, 24]⟩
abbrev S1536x24x3x3 : Shape := ⟨4, ![1536, 24, 3, 3]⟩
abbrev S_ : Shape := ⟨0, ![]⟩
abbrev S4x192 : Shape := ⟨2, ![4, 192]⟩
abbrev S4x192x1x1 : Shape := ⟨4, ![4, 192, 1, 1]⟩
abbrev S4x384 : Shape := ⟨2, ![4, 384]⟩
abbrev S384x8 : Shape := ⟨2, ![384, 8]⟩
abbrev S4x8 : Shape := ⟨2, ![4, 8]⟩
abbrev S4 : Shape := ⟨1, ![4]⟩
abbrev S4x1 : Shape := ⟨2, ![4, 1]⟩
abbrev S4x2 : Shape := ⟨2, ![4, 2]⟩
abbrev S4x192x58x58 : Shape := ⟨4, ![4, 192, 58, 58]⟩
abbrev S4x8x24x58x58 : Shape := ⟨5, ![4, 8, 24, 58, 58]⟩
abbrev S8x192x24x3x3 : Shape := ⟨5, ![8, 192, 24, 3, 3]⟩
abbrev S4x8x192x56x56 : Shape := ⟨5, ![4, 8, 192, 56, 56]⟩
abbrev S4x8x24x56x56 : Shape := ⟨5, ![4, 8, 24, 56, 56]⟩
abbrev S8x192x24x1x1 : Shape := ⟨5, ![8, 192, 24, 1, 1]⟩
abbrev S8x192x24 : Shape := ⟨3, ![8, 192, 24]⟩
abbrev S8x192x4x56x56 : Shape := ⟨5, ![8, 192, 4, 56, 56]⟩
abbrev S4x1x1x1 : Shape := ⟨4, ![4, 1, 1, 1]⟩
abbrev S4x8x1x1x1 : Shape := ⟨5, ![4, 8, 1, 1, 1]⟩
abbrev S4x192x3136 : Shape := ⟨3, ![4, 192, 3136]⟩

abbrev nBuf : Space → Nat
  | .hbm => 301
  | .vmem => 0
  | .smem => 0
  | _ => 0

abbrev hbmTy0_0 (i : Nat) : BufTy := match i % 128 with
  | 0 => ⟨S4x192x56x56, .f32⟩
  | 1 => ⟨S8x384, .f32⟩
  | 2 => ⟨S1536x216, .f32⟩
  | 3 => ⟨S8x192, .f32⟩
  | 4 => ⟨S8x192, .f32⟩
  | 5 => ⟨S1536x3x3x24, .f32⟩
  | 6 => ⟨S1536x24x3x3, .f32⟩
  | 7 => ⟨S_, .f32⟩
  | 8 => ⟨S4x192, .f32⟩
  | 9 => ⟨S_, .f32⟩
  | 10 => ⟨S4x192, .f32⟩
  | 11 => ⟨S4x192, .f32⟩
  | 12 => ⟨S4x192x1x1, .f32⟩
  | 13 => ⟨S4x192x56x56, .f32⟩
  | 14 => ⟨S4x192x56x56, .f32⟩
  | 15 => ⟨S4x192x56x56, .f32⟩
  | 16 => ⟨S_, .f32⟩
  | 17 => ⟨S4x192, .f32⟩
  | 18 => ⟨S_, .f32⟩
  | 19 => ⟨S4x192, .f32⟩
  | 20 => ⟨S4x192, .f32⟩
  | 21 => ⟨S4x192, .f32⟩
  | 22 => ⟨S4x384, .f32⟩
  | 23 => ⟨S384x8, .f32⟩
  | 24 => ⟨S4x8, .f32⟩
  | 25 => ⟨S_, .f32⟩
  | 26 => ⟨S4, .f32⟩
  | 27 => ⟨S_, .f32⟩
  | 28 => ⟨S4, .f32⟩
  | 29 => ⟨S4, .f32⟩
  | 30 => ⟨S4x1, .f32⟩
  | 31 => ⟨S4x8, .f32⟩
  | 32 => ⟨S4x8, .f32⟩
  | 33 => ⟨S4x8, .f32⟩
  | 34 => ⟨S_, .f32⟩
  | 35 => ⟨S4, .f32⟩
  | 36 => ⟨S4x1, .f32⟩
  | 37 => ⟨S4x8, .f32⟩
  | 38 => ⟨S4x8, .f32⟩
  | 39 => ⟨S_, .f32⟩
  | 40 => ⟨S4x8, .f32⟩
  | 41 => ⟨S4x8, .f32⟩
  | 42 => ⟨S_, .f32⟩
  | 43 => ⟨S4x8, .f32⟩
  | 44 => ⟨S4x8, .f32⟩
  | 45 => ⟨S_, .f32⟩
  | 46 => ⟨S4x8, .f32⟩
  | 47 => ⟨S4x8, .f32⟩
  | 48 => ⟨S_, .f32⟩
  | 49 => ⟨S4, .f32⟩
  | 50 => ⟨S_, .f32⟩
  | 51 => ⟨S4, .f32⟩
  | 52 => ⟨S4, .f32⟩
  | 53 => ⟨S4x1, .f32⟩
  | 54 => ⟨S4x8, .f32⟩
  | 55 => ⟨S4x8, .f32⟩
  | 56 => ⟨S4x8, .f32⟩
  | 57 => ⟨S_, .f32⟩
  | 58 => ⟨S4, .f32⟩
  | 59 => ⟨S4x1, .f32⟩
  | 60 => ⟨S4x8, .f32⟩
  | 61 => ⟨S4x8, .f32⟩
  | 62 => ⟨S4x2, .f32⟩
  | 63 => ⟨S4x2, .i32⟩
  | 64 => ⟨S_, .f32⟩
  | 65 => ⟨S4, .f32⟩
  | 66 => ⟨S4x1, .f32⟩
  | 67 => ⟨S_, .f32⟩
  | 68 => ⟨S4x1, .f32⟩
  | 69 => ⟨S4x1, .f32⟩
  | 70 => ⟨S4x2, .f32⟩
  | 71 => ⟨S4x2, .f32⟩
  | 72 => ⟨S_, .f32⟩
  | 73 => ⟨S4x192x58x58, .f32⟩
  | 74 => ⟨S4x8x24x58x58, .f32⟩
  | 75 => ⟨S8x192x24x3x3, .f32⟩
  | 76 => ⟨S_, .f32⟩
  | 77 => ⟨S4x8x192x56x56, .f32⟩
  | 78 => ⟨S4x8x24x56x56, .f32⟩
  | 79 => ⟨S8x192x24x1x1, .f32⟩
  | 80 => ⟨S8x192x24, .f32⟩
  | 81 => ⟨S8x192x4x56x56, .f32⟩
  | 82 => ⟨S4x8x192x56x56, .f32⟩
  | 83 => ⟨S4x8x192x56x56, .f32⟩
  | 84 => ⟨S4x8x24x56x56, .f32⟩
  | 85 => ⟨S8x192x24x1x1, .f32⟩
  | 86 => ⟨S8x192x24, .f32⟩
  | 87 => ⟨S8x192x4x56x56, .f32⟩
  | 88 => ⟨S4x8x192x56x56, .f32⟩
  | 89 => ⟨S4x8x192x56x56, .f32⟩
  | 90 => ⟨S4x8x24x56x56, .f32⟩
  | 91 => ⟨S8x192x24x1x1, .f32⟩
  | 92 => ⟨S8x192x24, .f32⟩
  | 93 => ⟨S8x192x4x56x56, .f32⟩
  | 94 => ⟨S4x8x192x56x56, .f32⟩
  | 95 => ⟨S4x8x192x56x56, .f32⟩
  | 96 => ⟨S4x8x24x56x56, .f32⟩
  | 97 => ⟨S8x192x24x1x1, .f32⟩
  | 98 => ⟨S8x192x24, .f32⟩
  | 99 => ⟨S8x192x4x56x56, .f32⟩
  | 100 => ⟨S4x8x192x56x56, .f32⟩
  | 101 => ⟨S4x8x192x56x56, .f32⟩
  | 102 => ⟨S4x8x24x56x56, .f32⟩
  | 103 => ⟨S8x192x24x1x1, .f32⟩
  | 104 => ⟨S8x192x24, .f32⟩
  | 105 => ⟨S8x192x4x56x56, .f32⟩
  | 106 => ⟨S4x8x192x56x56, .f32⟩
  | 107 => ⟨S4x8x192x56x56, .f32⟩
  | 108 => ⟨S4x8x24x56x56, .f32⟩
  | 109 => ⟨S8x192x24x1x1, .f32⟩
  | 110 => ⟨S8x192x24, .f32⟩
  | 111 => ⟨S8x192x4x56x56, .f32⟩
  | 112 => ⟨S4x8x192x56x56, .f32⟩
  | 113 => ⟨S4x8x192x56x56, .f32⟩
  | 114 => ⟨S4x8x24x56x56, .f32⟩
  | 115 => ⟨S8x192x24x1x1, .f32⟩
  | 116 => ⟨S8x192x24, .f32⟩
  | 117 => ⟨S8x192x4x56x56, .f32⟩
  | 118 => ⟨S4x8x192x56x56, .f32⟩
  | 119 => ⟨S4x8x192x56x56, .f32⟩
  | 120 => ⟨S4x8x24x56x56, .f32⟩
  | 121 => ⟨S8x192x24x1x1, .f32⟩
  | 122 => ⟨S8x192x24, .f32⟩
  | 123 => ⟨S8x192x4x56x56, .f32⟩
  | 124 => ⟨S4x8x192x56x56, .f32⟩
  | 125 => ⟨S4x8x192x56x56, .f32⟩
  | 126 => ⟨S4x8x24x56x56, .f32⟩
  | 127 => ⟨S8x192x24x1x1, .f32⟩
  | _ => ⟨S4x192x56x56, .f32⟩

abbrev hbmTy0_1 (i : Nat) : BufTy := match i % 128 with
  | 0 => ⟨S8x192x24, .f32⟩
  | 1 => ⟨S8x192x4x56x56, .f32⟩
  | 2 => ⟨S4x8x192x56x56, .f32⟩
  | 3 => ⟨S4x8x192x56x56, .f32⟩
  | 4 => ⟨S_, .f32⟩
  | 5 => ⟨S4x192x56x56, .f32⟩
  | 6 => ⟨S4x1, .i32⟩
  | 7 => ⟨S4, .i32⟩
  | 8 => ⟨S4x1, .f32⟩
  | 9 => ⟨S4, .f32⟩
  | 10 => ⟨S4x1x1x1, .f32⟩
  | 11 => ⟨S4, .i32⟩
  | 12 => ⟨S_, .i32⟩
  | 13 => ⟨S4, .i32⟩
  | 14 => ⟨S4, .i1⟩
  | 15 => ⟨S_, .i32⟩
  | 16 => ⟨S4, .i32⟩
  | 17 => ⟨S4, .i32⟩
  | 18 => ⟨S4, .i32⟩
  | 19 => ⟨S_, .i32⟩
  | 20 => ⟨S4, .i32⟩
  | 21 => ⟨S4, .i1⟩
  | 22 => ⟨S_, .i32⟩
  | 23 => ⟨S4, .i32⟩
  | 24 => ⟨S4, .i32⟩
  | 25 => ⟨S4, .i32⟩
  | 26 => ⟨S4x1, .i32⟩
  | 27 => ⟨S4x1, .i32⟩
  | 28 => ⟨S4x2, .i32⟩
  | 29 => ⟨S4x192x56x56, .f32⟩
  | 30 => ⟨S_, .i32⟩
  | 31 => ⟨S4, .i32⟩
  | 32 => ⟨S4, .i1⟩
  | 33 => ⟨S_, .i32⟩
  | 34 => ⟨S4, .i32⟩
  | 35 => ⟨S4, .i32⟩
  | 36 => ⟨S4, .i32⟩
  | 37 => ⟨S4x1, .i32⟩
  | 38 => ⟨S4x192, .f32⟩
  | 39 => ⟨S_, .i32⟩
  | 40 => ⟨S4, .i32⟩
  | 41 => ⟨S4, .i1⟩
  | 42 => ⟨S_, .i32⟩
  | 43 => ⟨S4, .i32⟩
  | 44 => ⟨S4, .i32⟩
  | 45 => ⟨S4, .i32⟩
  | 46 => ⟨S4x1, .i32⟩
  | 47 => ⟨S4x192, .f32⟩
  | 48 => ⟨S4x8x24x56x56, .f32⟩
  | 49 => ⟨S_, .f32⟩
  | 50 => ⟨S4x8, .f32⟩
  | 51 => ⟨S4x8x1x1x1, .f32⟩
  | 52 => ⟨S_, .f32⟩
  | 53 => ⟨S4x8x1x1x1, .f32⟩
  | 54 => ⟨S4x8x1x1x1, .f32⟩
  | 55 => ⟨S4x8x24x56x56, .f32⟩
  | 56 => ⟨S4x8x24x56x56, .f32⟩
  | 57 => ⟨S4x8x24x56x56, .f32⟩
  | 58 => ⟨S_, .f32⟩
  | 59 => ⟨S4x8, .f32⟩
  | 60 => ⟨S4x8x1x1x1, .f32⟩
  | 61 => ⟨S_, .f32⟩
  | 62 => ⟨S4x8x1x1x1, .f32⟩
  | 63 => ⟨S4x8x1x1x1, .f32⟩
  | 64 => ⟨S_, .f32⟩
  | 65 => ⟨S4x8x1x1x1, .f32⟩
  | 66 => ⟨S4x8x1x1x1, .f32⟩
  | 67 => ⟨S4x8x1x1x1, .f32⟩
  | 68 => ⟨S4x8x24x56x56, .f32⟩
  | 69 => ⟨S4x8x24x56x56, .f32⟩
  | 70 => ⟨S4x192x56x56, .f32⟩
  | 71 => ⟨S4x192x1x1, .f32⟩
  | 72 => ⟨S4x192x56x56, .f32⟩
  | 73 => ⟨S4x192x56x56, .f32⟩
  | 74 => ⟨S4x192x1x1, .f32⟩
  | 75 => ⟨S4x192x56x56, .f32⟩
  | 76 => ⟨S4x192x56x56, .f32⟩
  | 77 => ⟨S4x192x56x56, .f32⟩
  | 78 => ⟨S4x192x56x56, .f32⟩
  | 79 => ⟨S_, .f32⟩
  | 80 => ⟨S4x192x56x56, .f32⟩
  | 81 => ⟨S4x192x56x56, .f32⟩
  | 82 => ⟨S_, .f32⟩
  | 83 => ⟨S4x192x56x56, .f32⟩
  | 84 => ⟨S4x192x56x56, .f32⟩
  | 85 => ⟨S4x192x56x56, .f32⟩
  | 86 => ⟨S4x192x56x56, .f32⟩
  | 87 => ⟨S4x192x56x56, .f32⟩
  | 88 => ⟨S4x192x56x56, .f32⟩
  | 89 => ⟨S4x1, .i32⟩
  | 90 => ⟨S4, .i32⟩
  | 91 => ⟨S4x1, .f32⟩
  | 92 => ⟨S4, .f32⟩
  | 93 => ⟨S4x1x1x1, .f32⟩
  | 94 => ⟨S4, .i32⟩
  | 95 => ⟨S_, .i32⟩
  | 96 => ⟨S4, .i32⟩
  | 97 => ⟨S4, .i1⟩
  | 98 => ⟨S_, .i32⟩
  | 99 => ⟨S4, .i32⟩
  | 100 => ⟨S4, .i32⟩
  | 101 => ⟨S4, .i32⟩
  | 102 => ⟨S_, .i32⟩
  | 103 => ⟨S4, .i32⟩
  | 104 => ⟨S4, .i1⟩
  | 105 => ⟨S_, .i32⟩
  | 106 => ⟨S4, .i32⟩
  | 107 => ⟨S4, .i32⟩
  | 108 => ⟨S4, .i32⟩
  | 109 => ⟨S4x1, .i32⟩
  | 110 => ⟨S4x1, .i32⟩
  | 111 => ⟨S4x2, .i32⟩
  | 112 => ⟨S4x192x56x56, .f32⟩
  | 113 => ⟨S_, .i32⟩
  | 114 => ⟨S4, .i32⟩
  | 115 => ⟨S4, .i1⟩
  | 116 => ⟨S_, .i32⟩
  | 117 => ⟨S4, .i32⟩
  | 118 => ⟨S4, .i32⟩
  | 119 => ⟨S4, .i32⟩
  | 120 => ⟨S4x1, .i32⟩
  | 121 => ⟨S4x192, .f32⟩
  | 122 => ⟨S_, .i32⟩
  | 123 => ⟨S4, .i32⟩
  | 124 => ⟨S4, .i1⟩
  | 125 => ⟨S_, .i32⟩
  | 126 => ⟨S4, .i32⟩
  | 127 => ⟨S4, .i32⟩
  | _ => ⟨S4x192x56x56, .f32⟩

abbrev hbmTy0_2 (i : Nat) : BufTy := match i % 128 with
  | 0 => ⟨S4, .i32⟩
  | 1 => ⟨S4x1, .i32⟩
  | 2 => ⟨S4x192, .f32⟩
  | 3 => ⟨S4x8x24x56x56, .f32⟩
  | 4 => ⟨S_, .f32⟩
  | 5 => ⟨S4x8, .f32⟩
  | 6 => ⟨S4x8x1x1x1, .f32⟩
  | 7 => ⟨S_, .f32⟩
  | 8 => ⟨S4x8x1x1x1, .f32⟩
  | 9 => ⟨S4x8x1x1x1, .f32⟩
  | 10 => ⟨S4x8x24x56x56, .f32⟩
  | 11 => ⟨S4x8x24x56x56, .f32⟩
  | 12 => ⟨S4x8x24x56x56, .f32⟩
  | 13 => ⟨S_, .f32⟩
  | 14 => ⟨S4x8, .f32⟩
  | 15 => ⟨S4x8x1x1x1, .f32⟩
  | 16 => ⟨S_, .f32⟩
  | 17 => ⟨S4x8x1x1x1, .f32⟩
  | 18 => ⟨S4x8x1x1x1, .f32⟩
  | 19 => ⟨S_, .f32⟩
  | 20 => ⟨S4x8x1x1x1, .f32⟩
  | 21 => ⟨S4x8x1x1x1, .f32⟩
  | 22 => ⟨S4x8x1x1x1, .f32⟩
  | 23 => ⟨S4x8x24x56x56, .f32⟩
  | 24 => ⟨S4x8x24x56x56, .f32⟩
  | 25 => ⟨S4x192x56x56, .f32⟩
  | 26 => ⟨S4x192x1x1, .f32⟩
  | 27 => ⟨S4x192x56x56, .f32⟩
  | 28 => ⟨S4x192x56x56, .f32⟩
  | 29 => ⟨S4x192x1x1, .f32⟩
  | 30 => ⟨S4x192x56x56, .f32⟩
  | 31 => ⟨S4x192x56x56, .f32⟩
  | 32 => ⟨S4x192x56x56, .f32⟩
  | 33 => ⟨S4x192x56x56, .f32⟩
  | 34 => ⟨S_, .f32⟩
  | 35 => ⟨S4x192x56x56, .f32⟩
  | 36 => ⟨S4x192x56x56, .f32⟩
  | 37 => ⟨S_, .f32⟩
  | 38 => ⟨S4x192x56x56, .f32⟩
  | 39 => ⟨S4x192x56x56, .f32⟩
  | 40 => ⟨S4x192x56x56, .f32⟩
  | 41 => ⟨S4x192x56x56, .f32⟩
  | 42 => ⟨S4x192x56x56, .f32⟩
  | 43 => ⟨S4x192x56x56, .f32⟩
  | 44 => ⟨S4x192x3136, .f32⟩
  | _ => ⟨S4x192x56x56, .f32⟩

abbrev hbmTy (i : Nat) : BufTy := match i / 128 with
  | 0 => hbmTy0_0 i
  | 1 => hbmTy0_1 i
  | 2 => hbmTy0_2 i
  | _ => ⟨S4x192x56x56, .f32⟩

abbrev bufTy : (tb : Table) → Fin (tcTables nBuf tb) → BufTy
  | .hbm, ⟨i, _⟩ => hbmTy i
  | _, _ => ⟨S4x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_values : Ref sig .tc := ⟨.hbm, 62, rfl⟩
abbrev main_indices : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_16 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_c : Ref sig .tc := ⟨.hbm, 140, rfl⟩
abbrev main_v115 : Ref sig .tc := ⟨.hbm, 141, rfl⟩
abbrev main_v116 : Ref sig .tc := ⟨.hbm, 142, rfl⟩
abbrev main_c_17 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_c_18 : Ref sig .tc := ⟨.hbm, 147, rfl⟩
abbrev main_v120 : Ref sig .tc := ⟨.hbm, 148, rfl⟩
abbrev main_v121 : Ref sig .tc := ⟨.hbm, 149, rfl⟩
abbrev main_c_19 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_c_20 : Ref sig .tc := ⟨.hbm, 158, rfl⟩
abbrev main_v129 : Ref sig .tc := ⟨.hbm, 159, rfl⟩
abbrev main_v130 : Ref sig .tc := ⟨.hbm, 160, rfl⟩
abbrev main_c_21 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_c_22 : Ref sig .tc := ⟨.hbm, 167, rfl⟩
abbrev main_v136 : Ref sig .tc := ⟨.hbm, 168, rfl⟩
abbrev main_v137 : Ref sig .tc := ⟨.hbm, 169, rfl⟩
abbrev main_c_23 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_24 : Ref sig .tc := ⟨.hbm, 177, rfl⟩
abbrev main_v144 : Ref sig .tc := ⟨.hbm, 178, rfl⟩
abbrev main_v145 : Ref sig .tc := ⟨.hbm, 179, rfl⟩
abbrev main_cst_25 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_26 : Ref sig .tc := ⟨.hbm, 186, rfl⟩
abbrev main_v151 : Ref sig .tc := ⟨.hbm, 187, rfl⟩
abbrev main_v152 : Ref sig .tc := ⟨.hbm, 188, rfl⟩
abbrev main_cst_27 : Ref sig .tc := ⟨.hbm, 189, rfl⟩
abbrev main_v153 : Ref sig .tc := ⟨.hbm, 190, rfl⟩
abbrev main_v154 : Ref sig .tc := ⟨.hbm, 191, rfl⟩
abbrev main_cst_28 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_29 : Ref sig .tc := ⟨.hbm, 207, rfl⟩
abbrev main_v169 : Ref sig .tc := ⟨.hbm, 208, rfl⟩
abbrev main_v170 : Ref sig .tc := ⟨.hbm, 209, rfl⟩
abbrev main_cst_30 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_c_31 : Ref sig .tc := ⟨.hbm, 223, rfl⟩
abbrev main_v183 : Ref sig .tc := ⟨.hbm, 224, rfl⟩
abbrev main_v184 : Ref sig .tc := ⟨.hbm, 225, rfl⟩
abbrev main_c_32 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_c_33 : Ref sig .tc := ⟨.hbm, 230, rfl⟩
abbrev main_v188 : Ref sig .tc := ⟨.hbm, 231, rfl⟩
abbrev main_v189 : Ref sig .tc := ⟨.hbm, 232, rfl⟩
abbrev main_c_34 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_c_35 : Ref sig .tc := ⟨.hbm, 241, rfl⟩
abbrev main_v197 : Ref sig .tc := ⟨.hbm, 242, rfl⟩
abbrev main_v198 : Ref sig .tc := ⟨.hbm, 243, rfl⟩
abbrev main_c_36 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_c_37 : Ref sig .tc := ⟨.hbm, 250, rfl⟩
abbrev main_v204 : Ref sig .tc := ⟨.hbm, 251, rfl⟩
abbrev main_v205 : Ref sig .tc := ⟨.hbm, 252, rfl⟩
abbrev main_c_38 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_cst_39 : Ref sig .tc := ⟨.hbm, 260, rfl⟩
abbrev main_v212 : Ref sig .tc := ⟨.hbm, 261, rfl⟩
abbrev main_v213 : Ref sig .tc := ⟨.hbm, 262, rfl⟩
abbrev main_cst_40 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_cst_41 : Ref sig .tc := ⟨.hbm, 269, rfl⟩
abbrev main_v219 : Ref sig .tc := ⟨.hbm, 270, rfl⟩
abbrev main_v220 : Ref sig .tc := ⟨.hbm, 271, rfl⟩
abbrev main_cst_42 : Ref sig .tc := ⟨.hbm, 272, rfl⟩
abbrev main_v221 : Ref sig .tc := ⟨.hbm, 273, rfl⟩
abbrev main_v222 : Ref sig .tc := ⟨.hbm, 274, rfl⟩
abbrev main_cst_43 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_cst_44 : Ref sig .tc := ⟨.hbm, 290, rfl⟩
abbrev main_v237 : Ref sig .tc := ⟨.hbm, 291, rfl⟩
abbrev main_v238 : Ref sig .tc := ⟨.hbm, 292, rfl⟩
abbrev main_cst_45 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩

abbrev nD : Nat := 1
abbrev τ : Topo := Topo.v7x

variable {F : FTy → Type} [FloatOps F]
-- ==== WholeIdeal.lean ====
abbrev S192 : Shape := ⟨1, ![192]⟩
abbrev S8x384 : Shape := ⟨2, ![8, 384]⟩
abbrev S24x3 : Shape := ⟨2, ![24, 3]⟩
abbrev S24 : Shape := ⟨1, ![24]⟩
abbrev S8 : Shape := ⟨1, ![8]⟩
abbrev S16 : Shape := ⟨1, ![16]⟩
abbrev S1x192x1x1 : Shape := ⟨4, ![1, 192, 1, 1]⟩
abbrev S4x192x56x56 : Shape := ⟨4, ![4, 192, 56, 56]⟩
abbrev S1x24x1x3 : Shape := ⟨4, ![1, 24, 1, 3]⟩
abbrev S1536x24x3x3 : Shape := ⟨4, ![1536, 24, 3, 3]⟩
abbrev S_ : Shape := ⟨0, ![]⟩
abbrev S8x192 : Shape := ⟨2, ![8, 192]⟩
abbrev S1536x24x9 : Shape := ⟨3, ![1536, 24, 9]⟩
abbrev S1536x9x24 : Shape := ⟨3, ![1536, 9, 24]⟩
abbrev S1536x216 : Shape := ⟨2, ![1536, 216]⟩
abbrev S8x192x216 : Shape := ⟨3, ![8, 192, 216]⟩
abbrev S1x192x216 : Shape := ⟨3, ![1, 192, 216]⟩
abbrev S192x216 : Shape := ⟨2, ![192, 216]⟩
abbrev S24x1 : Shape := ⟨2, ![24, 1]⟩
abbrev S192x24 : Shape := ⟨2, ![192, 24]⟩
abbrev S24x192 : Shape := ⟨2, ![24, 192]⟩
abbrev S24x2 : Shape := ⟨2, ![24, 2]⟩
abbrev S8x1 : Shape := ⟨2, ![8, 1]⟩
abbrev S192x8 : Shape := ⟨2, ![192, 8]⟩
abbrev S16x1 : Shape := ⟨2, ![16, 1]⟩
abbrev S192x16 : Shape := ⟨2, ![192, 16]⟩
abbrev S192x1 : Shape := ⟨2, ![192, 1]⟩
abbrev S4x192x3136 : Shape := ⟨3, ![4, 192, 3136]⟩
abbrev S1x192x3136 : Shape := ⟨3, ![1, 192, 3136]⟩
abbrev S24x3250 : Shape := ⟨2, ![24, 3250]⟩
abbrev S216x3136 : Shape := ⟨2, ![216, 3136]⟩
abbrev S192x3136 : Shape := ⟨2, ![192, 3136]⟩
abbrev S1x8x1 : Shape := ⟨3, ![1, 8, 1]⟩
abbrev S1 : Shape := ⟨1, ![1]⟩
abbrev S1x1x1 : Shape := ⟨3, ![1, 1, 1]⟩
abbrev S1x3136 : Shape := ⟨2, ![1, 3136]⟩
abbrev S1x24x3136 : Shape := ⟨3, ![1, 24, 3136]⟩
abbrev S24x3136 : Shape := ⟨2, ![24, 3136]⟩

abbrev nBuf : Space → Nat
  | .hbm => 360
  | .vmem => 10
  | .smem => 0
  | _ => 0

abbrev hbmTy0_0 (i : Nat) : BufTy := match i % 128 with
  | 0 => ⟨S192, .f32⟩
  | 1 => ⟨S8x384, .f32⟩
  | 2 => ⟨S24x3, .f32⟩
  | 3 => ⟨S24, .i32⟩
  | 4 => ⟨S24, .i1⟩
  | 5 => ⟨S24, .i32⟩
  | 6 => ⟨S24, .i1⟩
  | 7 => ⟨S24, .i1⟩
  | 8 => ⟨S24, .i1⟩
  | 9 => ⟨S8, .i32⟩
  | 10 => ⟨S8, .i1⟩
  | 11 => ⟨S16, .i32⟩
  | 12 => ⟨S16, .i1⟩
  | 13 => ⟨S192, .i32⟩
  | 14 => ⟨S192, .i1⟩
  | 15 => ⟨S24, .i1⟩
  | 16 => ⟨S24, .i1⟩
  | 17 => ⟨S24, .i1⟩
  | 18 => ⟨S24, .i1⟩
  | 19 => ⟨S24, .i1⟩
  | 20 => ⟨S8, .i1⟩
  | 21 => ⟨S16, .i1⟩
  | 22 => ⟨S192, .i1⟩
  | 23 => ⟨S24, .i1⟩
  | 24 => ⟨S24, .i1⟩
  | 25 => ⟨S24, .i1⟩
  | 26 => ⟨S24, .i1⟩
  | 27 => ⟨S24, .i1⟩
  | 28 => ⟨S8, .i1⟩
  | 29 => ⟨S16, .i1⟩
  | 30 => ⟨S192, .i1⟩
  | 31 => ⟨S24, .i1⟩
  | 32 => ⟨S24, .i1⟩
  | 33 => ⟨S24, .i1⟩
  | 34 => ⟨S24, .i1⟩
  | 35 => ⟨S24, .i1⟩
  | 36 => ⟨S8, .i1⟩
  | 37 => ⟨S16, .i1⟩
  | 38 => ⟨S192, .i1⟩
  | 39 => ⟨S24, .i1⟩
  | 40 => ⟨S1x192x1x1, .f32⟩
  | 41 => ⟨S4x192x56x56, .f32⟩
  | 42 => ⟨S1x24x1x3, .f32⟩
  | 43 => ⟨S1536x24x3x3, .f32⟩
  | 44 => ⟨S_, .f32⟩
  | 45 => ⟨S8x192, .f32⟩
  | 46 => ⟨S_, .f32⟩
  | 47 => ⟨S8x192, .f32⟩
  | 48 => ⟨S1536x24x9, .f32⟩
  | 49 => ⟨S1536x9x24, .f32⟩
  | 50 => ⟨S1536x216, .f32⟩
  | 51 => ⟨S8x192x216, .f32⟩
  | 52 => ⟨S8x192x216, .bf16⟩
  | 53 => ⟨S8x192x216, .f32⟩
  | 54 => ⟨S1x192x216, .f32⟩
  | 55 => ⟨S192x216, .f32⟩
  | 56 => ⟨S_, .i32⟩
  | 57 => ⟨S24, .i32⟩
  | 58 => ⟨S24, .i32⟩
  | 59 => ⟨S24, .i32⟩
  | 60 => ⟨S24x1, .i32⟩
  | 61 => ⟨S192x24, .f32⟩
  | 62 => ⟨S24x192, .f32⟩
  | 63 => ⟨S_, .i32⟩
  | 64 => ⟨S24, .i32⟩
  | 65 => ⟨S24, .i32⟩
  | 66 => ⟨S24, .i32⟩
  | 67 => ⟨S_, .i32⟩
  | 68 => ⟨S24, .i32⟩
  | 69 => ⟨S24, .i32⟩
  | 70 => ⟨S24x1, .i32⟩
  | 71 => ⟨S24x1, .i32⟩
  | 72 => ⟨S24x2, .i32⟩
  | 73 => ⟨S8x192x216, .f32⟩
  | 74 => ⟨S1x192x216, .f32⟩
  | 75 => ⟨S192x216, .f32⟩
  | 76 => ⟨S_, .i32⟩
  | 77 => ⟨S24, .i32⟩
  | 78 => ⟨S24, .i32⟩
  | 79 => ⟨S24, .i32⟩
  | 80 => ⟨S24x1, .i32⟩
  | 81 => ⟨S192x24, .f32⟩
  | 82 => ⟨S24x192, .f32⟩
  | 83 => ⟨S_, .i32⟩
  | 84 => ⟨S24, .i32⟩
  | 85 => ⟨S24, .i32⟩
  | 86 => ⟨S24, .i32⟩
  | 87 => ⟨S_, .i32⟩
  | 88 => ⟨S24, .i32⟩
  | 89 => ⟨S24, .i32⟩
  | 90 => ⟨S24x1, .i32⟩
  | 91 => ⟨S24x1, .i32⟩
  | 92 => ⟨S24x2, .i32⟩
  | 93 => ⟨S8x192x216, .f32⟩
  | 94 => ⟨S1x192x216, .f32⟩
  | 95 => ⟨S192x216, .f32⟩
  | 96 => ⟨S_, .i32⟩
  | 97 => ⟨S8, .i32⟩
  | 98 => ⟨S8, .i32⟩
  | 99 => ⟨S8, .i32⟩
  | 100 => ⟨S8x1, .i32⟩
  | 101 => ⟨S192x8, .f32⟩
  | 102 => ⟨S1x192x216, .f32⟩
  | 103 => ⟨S192x216, .f32⟩
  | 104 => ⟨S_, .i32⟩
  | 105 => ⟨S16, .i32⟩
  | 106 => ⟨S16, .i32⟩
  | 107 => ⟨S16, .i32⟩
  | 108 => ⟨S16x1, .i32⟩
  | 109 => ⟨S192x16, .f32⟩
  | 110 => ⟨S192x24, .f32⟩
  | 111 => ⟨S_, .i32⟩
  | 112 => ⟨S192, .i32⟩
  | 113 => ⟨S192, .i32⟩
  | 114 => ⟨S192, .i32⟩
  | 115 => ⟨S192x1, .i32⟩
  | 116 => ⟨S192x24, .f32⟩
  | 117 => ⟨S24x192, .f32⟩
  | 118 => ⟨S_, .i32⟩
  | 119 => ⟨S24, .i32⟩
  | 120 => ⟨S24, .i32⟩
  | 121 => ⟨S24, .i32⟩
  | 122 => ⟨S_, .i32⟩
  | 123 => ⟨S24, .i32⟩
  | 124 => ⟨S24, .i32⟩
  | 125 => ⟨S24x1, .i32⟩
  | 126 => ⟨S24x1, .i32⟩
  | 127 => ⟨S24x2, .i32⟩
  | _ => ⟨S192, .f32⟩

abbrev hbmTy0_1 (i : Nat) : BufTy := match i % 128 with
  | 0 => ⟨S8x192x216, .f32⟩
  | 1 => ⟨S1x192x216, .f32⟩
  | 2 => ⟨S192x216, .f32⟩
  | 3 => ⟨S_, .i32⟩
  | 4 => ⟨S24, .i32⟩
  | 5 => ⟨S24, .i32⟩
  | 6 => ⟨S24, .i32⟩
  | 7 => ⟨S24x1, .i32⟩
  | 8 => ⟨S192x24, .f32⟩
  | 9 => ⟨S24x192, .f32⟩
  | 10 => ⟨S_, .i32⟩
  | 11 => ⟨S24, .i32⟩
  | 12 => ⟨S24, .i32⟩
  | 13 => ⟨S24, .i32⟩
  | 14 => ⟨S_, .i32⟩
  | 15 => ⟨S24, .i32⟩
  | 16 => ⟨S24, .i32⟩
  | 17 => ⟨S24x1, .i32⟩
  | 18 => ⟨S24x1, .i32⟩
  | 19 => ⟨S24x2, .i32⟩
  | 20 => ⟨S8x192x216, .f32⟩
  | 21 => ⟨S1x192x216, .f32⟩
  | 22 => ⟨S192x216, .f32⟩
  | 23 => ⟨S_, .i32⟩
  | 24 => ⟨S24, .i32⟩
  | 25 => ⟨S24, .i32⟩
  | 26 => ⟨S24, .i32⟩
  | 27 => ⟨S24x1, .i32⟩
  | 28 => ⟨S192x24, .f32⟩
  | 29 => ⟨S24x192, .f32⟩
  | 30 => ⟨S_, .i32⟩
  | 31 => ⟨S24, .i32⟩
  | 32 => ⟨S24, .i32⟩
  | 33 => ⟨S24, .i32⟩
  | 34 => ⟨S_, .i32⟩
  | 35 => ⟨S24, .i32⟩
  | 36 => ⟨S24, .i32⟩
  | 37 => ⟨S24x1, .i32⟩
  | 38 => ⟨S24x1, .i32⟩
  | 39 => ⟨S24x2, .i32⟩
  | 40 => ⟨S8x192x216, .f32⟩
  | 41 => ⟨S1x192x216, .f32⟩
  | 42 => ⟨S192x216, .f32⟩
  | 43 => ⟨S_, .i32⟩
  | 44 => ⟨S8, .i32⟩
  | 45 => ⟨S8, .i32⟩
  | 46 => ⟨S8, .i32⟩
  | 47 => ⟨S8x1, .i32⟩
  | 48 => ⟨S192x8, .f32⟩
  | 49 => ⟨S1x192x216, .f32⟩
  | 50 => ⟨S192x216, .f32⟩
  | 51 => ⟨S_, .i32⟩
  | 52 => ⟨S16, .i32⟩
  | 53 => ⟨S16, .i32⟩
  | 54 => ⟨S16, .i32⟩
  | 55 => ⟨S16x1, .i32⟩
  | 56 => ⟨S192x16, .f32⟩
  | 57 => ⟨S192x24, .f32⟩
  | 58 => ⟨S_, .i32⟩
  | 59 => ⟨S192, .i32⟩
  | 60 => ⟨S192, .i32⟩
  | 61 => ⟨S192, .i32⟩
  | 62 => ⟨S192x1, .i32⟩
  | 63 => ⟨S192x24, .f32⟩
  | 64 => ⟨S24x192, .f32⟩
  | 65 => ⟨S_, .i32⟩
  | 66 => ⟨S24, .i32⟩
  | 67 => ⟨S24, .i32⟩
  | 68 => ⟨S24, .i32⟩
  | 69 => ⟨S_, .i32⟩
  | 70 => ⟨S24, .i32⟩
  | 71 => ⟨S24, .i32⟩
  | 72 => ⟨S24x1, .i32⟩
  | 73 => ⟨S24x1, .i32⟩
  | 74 => ⟨S24x2, .i32⟩
  | 75 => ⟨S8x192x216, .f32⟩
  | 76 => ⟨S1x192x216, .f32⟩
  | 77 => ⟨S192x216, .f32⟩
  | 78 => ⟨S_, .i32⟩
  | 79 => ⟨S24, .i32⟩
  | 80 => ⟨S24, .i32⟩
  | 81 => ⟨S24, .i32⟩
  | 82 => ⟨S24x1, .i32⟩
  | 83 => ⟨S192x24, .f32⟩
  | 84 => ⟨S24x192, .f32⟩
  | 85 => ⟨S_, .i32⟩
  | 86 => ⟨S24, .i32⟩
  | 87 => ⟨S24, .i32⟩
  | 88 => ⟨S24, .i32⟩
  | 89 => ⟨S_, .i32⟩
  | 90 => ⟨S24, .i32⟩
  | 91 => ⟨S24, .i32⟩
  | 92 => ⟨S24x1, .i32⟩
  | 93 => ⟨S24x1, .i32⟩
  | 94 => ⟨S24x2, .i32⟩
  | 95 => ⟨S8x192x216, .f32⟩
  | 96 => ⟨S1x192x216, .f32⟩
  | 97 => ⟨S192x216, .f32⟩
  | 98 => ⟨S_, .i32⟩
  | 99 => ⟨S24, .i32⟩
  | 100 => ⟨S24, .i32⟩
  | 101 => ⟨S24, .i32⟩
  | 102 => ⟨S24x1, .i32⟩
  | 103 => ⟨S192x24, .f32⟩
  | 104 => ⟨S24x192, .f32⟩
  | 105 => ⟨S_, .i32⟩
  | 106 => ⟨S24, .i32⟩
  | 107 => ⟨S24, .i32⟩
  | 108 => ⟨S24, .i32⟩
  | 109 => ⟨S_, .i32⟩
  | 110 => ⟨S24, .i32⟩
  | 111 => ⟨S24, .i32⟩
  | 112 => ⟨S24x1, .i32⟩
  | 113 => ⟨S24x1, .i32⟩
  | 114 => ⟨S24x2, .i32⟩
  | 115 => ⟨S8x192x216, .f32⟩
  | 116 => ⟨S1x192x216, .f32⟩
  | 117 => ⟨S192x216, .f32⟩
  | 118 => ⟨S_, .i32⟩
  | 119 => ⟨S8, .i32⟩
  | 120 => ⟨S8, .i32⟩
  | 121 => ⟨S8, .i32⟩
  | 122 => ⟨S8x1, .i32⟩
  | 123 => ⟨S192x8, .f32⟩
  | 124 => ⟨S1x192x216, .f32⟩
  | 125 => ⟨S192x216, .f32⟩
  | 126 => ⟨S_, .i32⟩
  | 127 => ⟨S16, .i32⟩
  | _ => ⟨S192, .f32⟩

abbrev hbmTy0_2 (i : Nat) : BufTy := match i % 128 with
  | 0 => ⟨S16, .i32⟩
  | 1 => ⟨S16, .i32⟩
  | 2 => ⟨S16x1, .i32⟩
  | 3 => ⟨S192x16, .f32⟩
  | 4 => ⟨S192x24, .f32⟩
  | 5 => ⟨S_, .i32⟩
  | 6 => ⟨S192, .i32⟩
  | 7 => ⟨S192, .i32⟩
  | 8 => ⟨S192, .i32⟩
  | 9 => ⟨S192x1, .i32⟩
  | 10 => ⟨S192x24, .f32⟩
  | 11 => ⟨S24x192, .f32⟩
  | 12 => ⟨S_, .i32⟩
  | 13 => ⟨S24, .i32⟩
  | 14 => ⟨S24, .i32⟩
  | 15 => ⟨S24, .i32⟩
  | 16 => ⟨S_, .i32⟩
  | 17 => ⟨S24, .i32⟩
  | 18 => ⟨S24, .i32⟩
  | 19 => ⟨S24x1, .i32⟩
  | 20 => ⟨S24x1, .i32⟩
  | 21 => ⟨S24x2, .i32⟩
  | 22 => ⟨S8x192x216, .f32⟩
  | 23 => ⟨S1x192x216, .f32⟩
  | 24 => ⟨S192x216, .f32⟩
  | 25 => ⟨S_, .i32⟩
  | 26 => ⟨S24, .i32⟩
  | 27 => ⟨S24, .i32⟩
  | 28 => ⟨S24, .i32⟩
  | 29 => ⟨S24x1, .i32⟩
  | 30 => ⟨S192x24, .f32⟩
  | 31 => ⟨S24x192, .f32⟩
  | 32 => ⟨S_, .i32⟩
  | 33 => ⟨S24, .i32⟩
  | 34 => ⟨S24, .i32⟩
  | 35 => ⟨S24, .i32⟩
  | 36 => ⟨S_, .i32⟩
  | 37 => ⟨S24, .i32⟩
  | 38 => ⟨S24, .i32⟩
  | 39 => ⟨S24x1, .i32⟩
  | 40 => ⟨S24x1, .i32⟩
  | 41 => ⟨S24x2, .i32⟩
  | 42 => ⟨S8x192x216, .f32⟩
  | 43 => ⟨S1x192x216, .f32⟩
  | 44 => ⟨S192x216, .f32⟩
  | 45 => ⟨S_, .i32⟩
  | 46 => ⟨S24, .i32⟩
  | 47 => ⟨S24, .i32⟩
  | 48 => ⟨S24, .i32⟩
  | 49 => ⟨S24x1, .i32⟩
  | 50 => ⟨S192x24, .f32⟩
  | 51 => ⟨S24x192, .f32⟩
  | 52 => ⟨S_, .i32⟩
  | 53 => ⟨S24, .i32⟩
  | 54 => ⟨S24, .i32⟩
  | 55 => ⟨S24, .i32⟩
  | 56 => ⟨S_, .i32⟩
  | 57 => ⟨S24, .i32⟩
  | 58 => ⟨S24, .i32⟩
  | 59 => ⟨S24x1, .i32⟩
  | 60 => ⟨S24x1, .i32⟩
  | 61 => ⟨S24x2, .i32⟩
  | 62 => ⟨S8x192x216, .f32⟩
  | 63 => ⟨S1x192x216, .f32⟩
  | 64 => ⟨S192x216, .f32⟩
  | 65 => ⟨S_, .i32⟩
  | 66 => ⟨S8, .i32⟩
  | 67 => ⟨S8, .i32⟩
  | 68 => ⟨S8, .i32⟩
  | 69 => ⟨S8x1, .i32⟩
  | 70 => ⟨S192x8, .f32⟩
  | 71 => ⟨S1x192x216, .f32⟩
  | 72 => ⟨S192x216, .f32⟩
  | 73 => ⟨S_, .i32⟩
  | 74 => ⟨S16, .i32⟩
  | 75 => ⟨S16, .i32⟩
  | 76 => ⟨S16, .i32⟩
  | 77 => ⟨S16x1, .i32⟩
  | 78 => ⟨S192x16, .f32⟩
  | 79 => ⟨S192x24, .f32⟩
  | 80 => ⟨S_, .i32⟩
  | 81 => ⟨S192, .i32⟩
  | 82 => ⟨S192, .i32⟩
  | 83 => ⟨S192, .i32⟩
  | 84 => ⟨S192x1, .i32⟩
  | 85 => ⟨S192x24, .f32⟩
  | 86 => ⟨S24x192, .f32⟩
  | 87 => ⟨S_, .i32⟩
  | 88 => ⟨S24, .i32⟩
  | 89 => ⟨S24, .i32⟩
  | 90 => ⟨S24, .i32⟩
  | 91 => ⟨S_, .i32⟩
  | 92 => ⟨S24, .i32⟩
  | 93 => ⟨S24, .i32⟩
  | 94 => ⟨S24x1, .i32⟩
  | 95 => ⟨S24x1, .i32⟩
  | 96 => ⟨S24x2, .i32⟩
  | 97 => ⟨S8x192x216, .f32⟩
  | 98 => ⟨S1536x216, .f32⟩
  | 99 => ⟨S4x192x3136, .f32⟩
  | 100 => ⟨S1536x216, .bf16⟩
  | 101 => ⟨S192x8, .f32⟩
  | 102 => ⟨S192x8, .f32⟩
  | 103 => ⟨S4x192x3136, .f32⟩
  | _ => ⟨S192, .f32⟩

abbrev hbmTy (i : Nat) : BufTy := match i / 128 with
  | 0 => hbmTy0_0 i
  | 1 => hbmTy0_1 i
  | 2 => hbmTy0_2 i
  | _ => ⟨S192, .f32⟩

abbrev bufTy : (tb : Table) → Fin (tcTables nBuf tb) → BufTy
  | .hbm, ⟨i, _⟩ => hbmTy i
  | .local _ .vmem, ⟨0, _⟩ => ⟨S1x192x3136, .f32⟩
  | .local _ .vmem, ⟨1, _⟩ => ⟨S1x192x3136, .f32⟩
  | .local _ .vmem, ⟨2, _⟩ => ⟨S8x384, .f32⟩
  | .local _ .vmem, ⟨3, _⟩ => ⟨S1536x216, .bf16⟩
  | .local _ .vmem, ⟨4, _⟩ => ⟨S192x8, .f32⟩
  | .local _ .vmem, ⟨5, _⟩ => ⟨S192x8, .f32⟩
  | .local _ .vmem, ⟨6, _⟩ => ⟨S1x192x3136, .f32⟩
  | .local _ .vmem, ⟨7, _⟩ => ⟨S1x192x3136, .f32⟩
  | .local _ .vmem, ⟨8, _⟩ => ⟨S24x3250, .f32⟩
  | .local _ .vmem, ⟨9, _⟩ => ⟨S216x3136, .bf16⟩
  | _, _ => ⟨S192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_c_15 : Ref sig .tc := ⟨.hbm, 19, rfl⟩
abbrev main_c_16 : Ref sig .tc := ⟨.hbm, 20, rfl⟩
abbrev main_c_17 : Ref sig .tc := ⟨.hbm, 21, rfl⟩
abbrev main_c_18 : Ref sig .tc := ⟨.hbm, 22, rfl⟩
abbrev main_c_19 : Ref sig .tc := ⟨.hbm, 23, rfl⟩
abbrev main_c_20 : Ref sig .tc := ⟨.hbm, 24, rfl⟩
abbrev main_c_21 : Ref sig .tc := ⟨.hbm, 25, rfl⟩
abbrev main_c_22 : Ref sig .tc := ⟨.hbm, 26, rfl⟩
abbrev main_c_23 : Ref sig .tc := ⟨.hbm, 27, rfl⟩
abbrev main_c_24 : Ref sig .tc := ⟨.hbm, 28, rfl⟩
abbrev main_c_25 : Ref sig .tc := ⟨.hbm, 29, rfl⟩
abbrev main_c_26 : Ref sig .tc := ⟨.hbm, 30, rfl⟩
abbrev main_c_27 : Ref sig .tc := ⟨.hbm, 31, rfl⟩
abbrev main_c_28 : Ref sig .tc := ⟨.hbm, 32, rfl⟩
abbrev main_c_29 : Ref sig .tc := ⟨.hbm, 33, rfl⟩
abbrev main_c_30 : Ref sig .tc := ⟨.hbm, 34, rfl⟩
abbrev main_c_31 : Ref sig .tc := ⟨.hbm, 35, rfl⟩
abbrev main_c_32 : Ref sig .tc := ⟨.hbm, 36, rfl⟩
abbrev main_c_33 : Ref sig .tc := ⟨.hbm, 37, rfl⟩
abbrev main_c_34 : Ref sig .tc := ⟨.hbm, 38, rfl⟩
abbrev main_c_35 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_cst_36 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_c_37 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c_38 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_c_39 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_40 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_c_41 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_c_42 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_c_43 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_c_44 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_45 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_c_46 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_c_47 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_c_48 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_49 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_c_50 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_c_51 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_c_52 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_c_53 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_c_54 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_c_55 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_56 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_c_57 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_c_58 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_c_59 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_c_60 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_c_61 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_c_62 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_c_63 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_c_64 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_c_65 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_c_66 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_c_67 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_c_68 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_c_69 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_c_70 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_c_71 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_c_72 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_c_73 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_c_74 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_c_75 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_c_76 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_c_77 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_c_78 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_c_79 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_c_80 : Ref sig .tc := ⟨.hbm, 347, rfl⟩
abbrev main_v262 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def k0_off1 (v61 : BitVec 32) : Fin 3 → Nat :=
  let c0_48 : Index := 0#32
  let c24_i32_47 : BitVec 32 := 24#32
  let v160 : BitVec 32 := Scalar.muli v61 c24_i32_47
  let v161 : Index := Scalar.indexCast v160
  let c0_49 : Index := 0#32
  ![0, v161.toNat, 0]

def k0_off2 (v61 : BitVec 32) : Fin 2 → Nat :=
  let c192_i32 : BitVec 32 := 192#32
  let v224 : BitVec 32 := Scalar.muli v61 c192_i32
  let v225 : Index := Scalar.indexCast v224
  let c0_73 : Index := 0#32
  ![v225.toNat, 0]

def k0_chk1 (v61 : BitVec 32) : Prop :=
  (∀ a, (k0_off1 v61) a + S1x24x3136.size a ≤ S1x192x3136.size a) ∧
  (∀ a, (k0_off2 v61) a + S192x216.size a ≤ S1536x216.size a)
theorem k0_off1_inb : ∀ (v61 : BitVec 32) (k0_hw1 : k0_chk1 v61), ∀ a, (k0_off1 v61) a + S1x24x3136.size a ≤ S1x192x3136.size a := fun v61 k0_hw1 => k0_hw1.1
theorem k0_off2_inb : ∀ (v61 : BitVec 32) (k0_hw1 : k0_chk1 v61), ∀ a, (k0_off2 v61) a + S192x216.size a ≤ S1536x216.size a := fun v61 k0_hw1 => k0_hw1.2

def k0_off3 (v77 : BitVec 32) : Fin 3 → Nat :=
  let c0_98 : Index := 0#32
  let c24_i32_97 : BitVec 32 := 24#32
  let v275 : BitVec 32 := Scalar.muli v77 c24_i32_97
  let v276 : Index := Scalar.indexCast v275
  let c0_99 : Index := 0#32
  ![0, v276.toNat, 0]

def k0_off4 (v77 : BitVec 32) : Fin 2 → Nat :=
  let c192_i32_138 : BitVec 32 := 192#32
  let v339 : BitVec 32 := Scalar.muli v77 c192_i32_138
  let v340 : Index := Scalar.indexCast v339
  let c0_139 : Index := 0#32
  ![v340.toNat, 0]

def k0_chk2 (v77 : BitVec 32) : Prop :=
  (∀ a, (k0_off3 v77) a + S1x24x3136.size a ≤ S1x192x3136.size a) ∧
  (∀ a, (k0_off4 v77) a + S192x216.size a ≤ S1536x216.size a)
theorem k0_off3_inb : ∀ (v77 : BitVec 32) (k0_hw2 : k0_chk2 v77), ∀ a, (k0_off3 v77) a + S1x24x3136.size a ≤ S1x192x3136.size a := fun v77 k0_hw2 => k0_hw2.1
theorem k0_off4_inb : ∀ (v77 : BitVec 32) (k0_hw2 : k0_chk2 v77), ∀ a, (k0_off4 v77) a + S192x216.size a ≤ S1536x216.size a := fun v77 k0_hw2 => k0_hw2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x192x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WholeReferenceIdeal.lean ====
abbrev S192 : Shape := ⟨1, ![192]⟩
abbrev S8x384 : Shape := ⟨2, ![8, 384]⟩
abbrev S24x3 : Shape := ⟨2, ![24, 3]⟩
abbrev S1x192x1x1 : Shape := ⟨4, ![1, 192, 1, 1]⟩
abbrev S4x192x56x56 : Shape := ⟨4, ![4, 192, 56, 56]⟩
abbrev S1x24x1x3 : Shape := ⟨4, ![1, 24, 1, 3]⟩
abbrev S1536x24x3x3 : Shape := ⟨4, ![1536, 24, 3, 3]⟩
abbrev S_ : Shape := ⟨0, ![]⟩
abbrev S8x192 : Shape := ⟨2, ![8, 192]⟩
abbrev S1536x3x3x24 : Shape := ⟨4, ![1536, 3, 3, 24]⟩
abbrev S1536x216 : Shape := ⟨2, ![1536, 216]⟩
abbrev S4x192 : Shape := ⟨2, ![4, 192]⟩
abbrev S4x192x1x1 : Shape := ⟨4, ![4, 192, 1, 1]⟩
abbrev S4x384 : Shape := ⟨2, ![4, 384]⟩
abbrev S384x8 : Shape := ⟨2, ![384, 8]⟩
abbrev S4x8 : Shape := ⟨2, ![4, 8]⟩
abbrev S4 : Shape := ⟨1, ![4]⟩
abbrev S4x1 : Shape := ⟨2, ![4, 1]⟩
abbrev S4x2 : Shape := ⟨2, ![4, 2]⟩
abbrev S4x192x58x58 : Shape := ⟨4, ![4, 192, 58, 58]⟩
abbrev S4x8x24x58x58 : Shape := ⟨5, ![4, 8, 24, 58, 58]⟩
abbrev S8x192x24x3x3 : Shape := ⟨5, ![8, 192, 24, 3, 3]⟩
abbrev S4x8x192x56x56 : Shape := ⟨5, ![4, 8, 192, 56, 56]⟩
abbrev S4x8x24x56x56 : Shape := ⟨5, ![4, 8, 24, 56, 56]⟩
abbrev S8x192x24x1x1 : Shape := ⟨5, ![8, 192, 24, 1, 1]⟩
abbrev S8x192x24 : Shape := ⟨3, ![8, 192, 24]⟩
abbrev S8x192x4x56x56 : Shape := ⟨5, ![8, 192, 4, 56, 56]⟩
abbrev S4x1x1x1 : Shape := ⟨4, ![4, 1, 1, 1]⟩
abbrev S4x8x1x1x1 : Shape := ⟨5, ![4, 8, 1, 1, 1]⟩
abbrev S4x192x3136 : Shape := ⟨3, ![4, 192, 3136]⟩

abbrev nBuf : Space → Nat
  | .hbm => 309
  | .vmem => 0
  | .smem => 0
  | _ => 0

abbrev hbmTy0_0 (i : Nat) : BufTy := match i % 128 with
  | 0 => ⟨S192, .f32⟩
  | 1 => ⟨S8x384, .f32⟩
  | 2 => ⟨S24x3, .f32⟩
  | 3 => ⟨S1x192x1x1, .f32⟩
  | 4 => ⟨S4x192x56x56, .f32⟩
  | 5 => ⟨S1x24x1x3, .f32⟩
  | 6 => ⟨S1536x24x3x3, .f32⟩
  | 7 => ⟨S_, .f32⟩
  | 8 => ⟨S8x192, .f32⟩
  | 9 => ⟨S_, .f32⟩
  | 10 => ⟨S8x192, .f32⟩
  | 11 => ⟨S1536x3x3x24, .f32⟩
  | 12 => ⟨S1536x216, .f32⟩
  | 13 => ⟨S1536x3x3x24, .f32⟩
  | 14 => ⟨S1536x24x3x3, .f32⟩
  | 15 => ⟨S_, .f32⟩
  | 16 => ⟨S4x192, .f32⟩
  | 17 => ⟨S_, .f32⟩
  | 18 => ⟨S4x192, .f32⟩
  | 19 => ⟨S4x192, .f32⟩
  | 20 => ⟨S4x192x1x1, .f32⟩
  | 21 => ⟨S4x192x56x56, .f32⟩
  | 22 => ⟨S4x192x56x56, .f32⟩
  | 23 => ⟨S4x192x56x56, .f32⟩
  | 24 => ⟨S_, .f32⟩
  | 25 => ⟨S4x192, .f32⟩
  | 26 => ⟨S_, .f32⟩
  | 27 => ⟨S4x192, .f32⟩
  | 28 => ⟨S4x192, .f32⟩
  | 29 => ⟨S4x192, .f32⟩
  | 30 => ⟨S4x384, .f32⟩
  | 31 => ⟨S384x8, .f32⟩
  | 32 => ⟨S4x8, .f32⟩
  | 33 => ⟨S_, .f32⟩
  | 34 => ⟨S4, .f32⟩
  | 35 => ⟨S_, .f32⟩
  | 36 => ⟨S4, .f32⟩
  | 37 => ⟨S4, .f32⟩
  | 38 => ⟨S4x1, .f32⟩
  | 39 => ⟨S4x8, .f32⟩
  | 40 => ⟨S4x8, .f32⟩
  | 41 => ⟨S4x8, .f32⟩
  | 42 => ⟨S_, .f32⟩
  | 43 => ⟨S4, .f32⟩
  | 44 => ⟨S4x1, .f32⟩
  | 45 => ⟨S4x8, .f32⟩
  | 46 => ⟨S4x8, .f32⟩
  | 47 => ⟨S_, .f32⟩
  | 48 => ⟨S4x8, .f32⟩
  | 49 => ⟨S4x8, .f32⟩
  | 50 => ⟨S_, .f32⟩
  | 51 => ⟨S4x8, .f32⟩
  | 52 => ⟨S4x8, .f32⟩
  | 53 => ⟨S_, .f32⟩
  | 54 => ⟨S4x8, .f32⟩
  | 55 => ⟨S4x8, .f32⟩
  | 56 => ⟨S_, .f32⟩
  | 57 => ⟨S4, .f32⟩
  | 58 => ⟨S_, .f32⟩
  | 59 => ⟨S4, .f32⟩
  | 60 => ⟨S4, .f32⟩
  | 61 => ⟨S4x1, .f32⟩
  | 62 => ⟨S4x8, .f32⟩
  | 63 => ⟨S4x8, .f32⟩
  | 64 => ⟨S4x8, .f32⟩
  | 65 => ⟨S_, .f32⟩
  | 66 => ⟨S4, .f32⟩
  | 67 => ⟨S4x1, .f32⟩
  | 68 => ⟨S4x8, .f32⟩
  | 69 => ⟨S4x8, .f32⟩
  | 70 => ⟨S4x2, .f32⟩
  | 71 => ⟨S4x2, .i32⟩
  | 72 => ⟨S_, .f32⟩
  | 73 => ⟨S4, .f32⟩
  | 74 => ⟨S4x1, .f32⟩
  | 75 => ⟨S_, .f32⟩
  | 76 => ⟨S4x1, .f32⟩
  | 77 => ⟨S4x1, .f32⟩
  | 78 => ⟨S4x2, .f32⟩
  | 79 => ⟨S4x2, .f32⟩
  | 80 => ⟨S_, .f32⟩
  | 81 => ⟨S4x192x58x58, .f32⟩
  | 82 => ⟨S4x8x24x58x58, .f32⟩
  | 83 => ⟨S8x192x24x3x3, .f32⟩
  | 84 => ⟨S_, .f32⟩
  | 85 => ⟨S4x8x192x56x56, .f32⟩
  | 86 => ⟨S4x8x24x56x56, .f32⟩
  | 87 => ⟨S8x192x24x1x1, .f32⟩
  | 88 => ⟨S8x192x24, .f32⟩
  | 89 => ⟨S8x192x4x56x56, .f32⟩
  | 90 => ⟨S4x8x192x56x56, .f32⟩
  | 91 => ⟨S4x8x192x56x56, .f32⟩
  | 92 => ⟨S4x8x24x56x56, .f32⟩
  | 93 => ⟨S8x192x24x1x1, .f32⟩
  | 94 => ⟨S8x192x24, .f32⟩
  | 95 => ⟨S8x192x4x56x56, .f32⟩
  | 96 => ⟨S4x8x192x56x56, .f32⟩
  | 97 => ⟨S4x8x192x56x56, .f32⟩
  | 98 => ⟨S4x8x24x56x56, .f32⟩
  | 99 => ⟨S8x192x24x1x1, .f32⟩
  | 100 => ⟨S8x192x24, .f32⟩
  | 101 => ⟨S8x192x4x56x56, .f32⟩
  | 102 => ⟨S4x8x192x56x56, .f32⟩
  | 103 => ⟨S4x8x192x56x56, .f32⟩
  | 104 => ⟨S4x8x24x56x56, .f32⟩
  | 105 => ⟨S8x192x24x1x1, .f32⟩
  | 106 => ⟨S8x192x24, .f32⟩
  | 107 => ⟨S8x192x4x56x56, .f32⟩
  | 108 => ⟨S4x8x192x56x56, .f32⟩
  | 109 => ⟨S4x8x192x56x56, .f32⟩
  | 110 => ⟨S4x8x24x56x56, .f32⟩
  | 111 => ⟨S8x192x24x1x1, .f32⟩
  | 112 => ⟨S8x192x24, .f32⟩
  | 113 => ⟨S8x192x4x56x56, .f32⟩
  | 114 => ⟨S4x8x192x56x56, .f32⟩
  | 115 => ⟨S4x8x192x56x56, .f32⟩
  | 116 => ⟨S4x8x24x56x56, .f32⟩
  | 117 => ⟨S8x192x24x1x1, .f32⟩
  | 118 => ⟨S8x192x24, .f32⟩
  | 119 => ⟨S8x192x4x56x56, .f32⟩
  | 120 => ⟨S4x8x192x56x56, .f32⟩
  | 121 => ⟨S4x8x192x56x56, .f32⟩
  | 122 => ⟨S4x8x24x56x56, .f32⟩
  | 123 => ⟨S8x192x24x1x1, .f32⟩
  | 124 => ⟨S8x192x24, .f32⟩
  | 125 => ⟨S8x192x4x56x56, .f32⟩
  | 126 => ⟨S4x8x192x56x56, .f32⟩
  | 127 => ⟨S4x8x192x56x56, .f32⟩
  | _ => ⟨S192, .f32⟩

abbrev hbmTy0_1 (i : Nat) : BufTy := match i % 128 with
  | 0 => ⟨S4x8x24x56x56, .f32⟩
  | 1 => ⟨S8x192x24x1x1, .f32⟩
  | 2 => ⟨S8x192x24, .f32⟩
  | 3 => ⟨S8x192x4x56x56, .f32⟩
  | 4 => ⟨S4x8x192x56x56, .f32⟩
  | 5 => ⟨S4x8x192x56x56, .f32⟩
  | 6 => ⟨S4x8x24x56x56, .f32⟩
  | 7 => ⟨S8x192x24x1x1, .f32⟩
  | 8 => ⟨S8x192x24, .f32⟩
  | 9 => ⟨S8x192x4x56x56, .f32⟩
  | 10 => ⟨S4x8x192x56x56, .f32⟩
  | 11 => ⟨S4x8x192x56x56, .f32⟩
  | 12 => ⟨S_, .f32⟩
  | 13 => ⟨S4x192x56x56, .f32⟩
  | 14 => ⟨S4x1, .i32⟩
  | 15 => ⟨S4, .i32⟩
  | 16 => ⟨S4x1, .f32⟩
  | 17 => ⟨S4, .f32⟩
  | 18 => ⟨S4x1x1x1, .f32⟩
  | 19 => ⟨S4, .i32⟩
  | 20 => ⟨S_, .i32⟩
  | 21 => ⟨S4, .i32⟩
  | 22 => ⟨S4, .i1⟩
  | 23 => ⟨S_, .i32⟩
  | 24 => ⟨S4, .i32⟩
  | 25 => ⟨S4, .i32⟩
  | 26 => ⟨S4, .i32⟩
  | 27 => ⟨S_, .i32⟩
  | 28 => ⟨S4, .i32⟩
  | 29 => ⟨S4, .i1⟩
  | 30 => ⟨S_, .i32⟩
  | 31 => ⟨S4, .i32⟩
  | 32 => ⟨S4, .i32⟩
  | 33 => ⟨S4, .i32⟩
  | 34 => ⟨S4x1, .i32⟩
  | 35 => ⟨S4x1, .i32⟩
  | 36 => ⟨S4x2, .i32⟩
  | 37 => ⟨S4x192x56x56, .f32⟩
  | 38 => ⟨S_, .i32⟩
  | 39 => ⟨S4, .i32⟩
  | 40 => ⟨S4, .i1⟩
  | 41 => ⟨S_, .i32⟩
  | 42 => ⟨S4, .i32⟩
  | 43 => ⟨S4, .i32⟩
  | 44 => ⟨S4, .i32⟩
  | 45 => ⟨S4x1, .i32⟩
  | 46 => ⟨S4x192, .f32⟩
  | 47 => ⟨S_, .i32⟩
  | 48 => ⟨S4, .i32⟩
  | 49 => ⟨S4, .i1⟩
  | 50 => ⟨S_, .i32⟩
  | 51 => ⟨S4, .i32⟩
  | 52 => ⟨S4, .i32⟩
  | 53 => ⟨S4, .i32⟩
  | 54 => ⟨S4x1, .i32⟩
  | 55 => ⟨S4x192, .f32⟩
  | 56 => ⟨S4x8x24x56x56, .f32⟩
  | 57 => ⟨S_, .f32⟩
  | 58 => ⟨S4x8, .f32⟩
  | 59 => ⟨S4x8x1x1x1, .f32⟩
  | 60 => ⟨S_, .f32⟩
  | 61 => ⟨S4x8x1x1x1, .f32⟩
  | 62 => ⟨S4x8x1x1x1, .f32⟩
  | 63 => ⟨S4x8x24x56x56, .f32⟩
  | 64 => ⟨S4x8x24x56x56, .f32⟩
  | 65 => ⟨S4x8x24x56x56, .f32⟩
  | 66 => ⟨S_, .f32⟩
  | 67 => ⟨S4x8, .f32⟩
  | 68 => ⟨S4x8x1x1x1, .f32⟩
  | 69 => ⟨S_, .f32⟩
  | 70 => ⟨S4x8x1x1x1, .f32⟩
  | 71 => ⟨S4x8x1x1x1, .f32⟩
  | 72 => ⟨S_, .f32⟩
  | 73 => ⟨S4x8x1x1x1, .f32⟩
  | 74 => ⟨S4x8x1x1x1, .f32⟩
  | 75 => ⟨S4x8x1x1x1, .f32⟩
  | 76 => ⟨S4x8x24x56x56, .f32⟩
  | 77 => ⟨S4x8x24x56x56, .f32⟩
  | 78 => ⟨S4x192x56x56, .f32⟩
  | 79 => ⟨S4x192x1x1, .f32⟩
  | 80 => ⟨S4x192x56x56, .f32⟩
  | 81 => ⟨S4x192x56x56, .f32⟩
  | 82 => ⟨S4x192x1x1, .f32⟩
  | 83 => ⟨S4x192x56x56, .f32⟩
  | 84 => ⟨S4x192x56x56, .f32⟩
  | 85 => ⟨S4x192x56x56, .f32⟩
  | 86 => ⟨S4x192x56x56, .f32⟩
  | 87 => ⟨S_, .f32⟩
  | 88 => ⟨S4x192x56x56, .f32⟩
  | 89 => ⟨S4x192x56x56, .f32⟩
  | 90 => ⟨S_, .f32⟩
  | 91 => ⟨S4x192x56x56, .f32⟩
  | 92 => ⟨S4x192x56x56, .f32⟩
  | 93 => ⟨S4x192x56x56, .f32⟩
  | 94 => ⟨S4x192x56x56, .f32⟩
  | 95 => ⟨S4x192x56x56, .f32⟩
  | 96 => ⟨S4x192x56x56, .f32⟩
  | 97 => ⟨S4x1, .i32⟩
  | 98 => ⟨S4, .i32⟩
  | 99 => ⟨S4x1, .f32⟩
  | 100 => ⟨S4, .f32⟩
  | 101 => ⟨S4x1x1x1, .f32⟩
  | 102 => ⟨S4, .i32⟩
  | 103 => ⟨S_, .i32⟩
  | 104 => ⟨S4, .i32⟩
  | 105 => ⟨S4, .i1⟩
  | 106 => ⟨S_, .i32⟩
  | 107 => ⟨S4, .i32⟩
  | 108 => ⟨S4, .i32⟩
  | 109 => ⟨S4, .i32⟩
  | 110 => ⟨S_, .i32⟩
  | 111 => ⟨S4, .i32⟩
  | 112 => ⟨S4, .i1⟩
  | 113 => ⟨S_, .i32⟩
  | 114 => ⟨S4, .i32⟩
  | 115 => ⟨S4, .i32⟩
  | 116 => ⟨S4, .i32⟩
  | 117 => ⟨S4x1, .i32⟩
  | 118 => ⟨S4x1, .i32⟩
  | 119 => ⟨S4x2, .i32⟩
  | 120 => ⟨S4x192x56x56, .f32⟩
  | 121 => ⟨S_, .i32⟩
  | 122 => ⟨S4, .i32⟩
  | 123 => ⟨S4, .i1⟩
  | 124 => ⟨S_, .i32⟩
  | 125 => ⟨S4, .i32⟩
  | 126 => ⟨S4, .i32⟩
  | 127 => ⟨S4, .i32⟩
  | _ => ⟨S192, .f32⟩

abbrev hbmTy0_2 (i : Nat) : BufTy := match i % 128 with
  | 0 => ⟨S4x1, .i32⟩
  | 1 => ⟨S4x192, .f32⟩
  | 2 => ⟨S_, .i32⟩
  | 3 => ⟨S4, .i32⟩
  | 4 => ⟨S4, .i1⟩
  | 5 => ⟨S_, .i32⟩
  | 6 => ⟨S4, .i32⟩
  | 7 => ⟨S4, .i32⟩
  | 8 => ⟨S4, .i32⟩
  | 9 => ⟨S4x1, .i32⟩
  | 10 => ⟨S4x192, .f32⟩
  | 11 => ⟨S4x8x24x56x56, .f32⟩
  | 12 => ⟨S_, .f32⟩
  | 13 => ⟨S4x8, .f32⟩
  | 14 => ⟨S4x8x1x1x1, .f32⟩
  | 15 => ⟨S_, .f32⟩
  | 16 => ⟨S4x8x1x1x1, .f32⟩
  | 17 => ⟨S4x8x1x1x1, .f32⟩
  | 18 => ⟨S4x8x24x56x56, .f32⟩
  | 19 => ⟨S4x8x24x56x56, .f32⟩
  | 20 => ⟨S4x8x24x56x56, .f32⟩
  | 21 => ⟨S_, .f32⟩
  | 22 => ⟨S4x8, .f32⟩
  | 23 => ⟨S4x8x1x1x1, .f32⟩
  | 24 => ⟨S_, .f32⟩
  | 25 => ⟨S4x8x1x1x1, .f32⟩
  | 26 => ⟨S4x8x1x1x1, .f32⟩
  | 27 => ⟨S_, .f32⟩
  | 28 => ⟨S4x8x1x1x1, .f32⟩
  | 29 => ⟨S4x8x1x1x1, .f32⟩
  | 30 => ⟨S4x8x1x1x1, .f32⟩
  | 31 => ⟨S4x8x24x56x56, .f32⟩
  | 32 => ⟨S4x8x24x56x56, .f32⟩
  | 33 => ⟨S4x192x56x56, .f32⟩
  | 34 => ⟨S4x192x1x1, .f32⟩
  | 35 => ⟨S4x192x56x56, .f32⟩
  | 36 => ⟨S4x192x56x56, .f32⟩
  | 37 => ⟨S4x192x1x1, .f32⟩
  | 38 => ⟨S4x192x56x56, .f32⟩
  | 39 => ⟨S4x192x56x56, .f32⟩
  | 40 => ⟨S4x192x56x56, .f32⟩
  | 41 => ⟨S4x192x56x56, .f32⟩
  | 42 => ⟨S_, .f32⟩
  | 43 => ⟨S4x192x56x56, .f32⟩
  | 44 => ⟨S4x192x56x56, .f32⟩
  | 45 => ⟨S_, .f32⟩
  | 46 => ⟨S4x192x56x56, .f32⟩
  | 47 => ⟨S4x192x56x56, .f32⟩
  | 48 => ⟨S4x192x56x56, .f32⟩
  | 49 => ⟨S4x192x56x56, .f32⟩
  | 50 => ⟨S4x192x56x56, .f32⟩
  | 51 => ⟨S4x192x56x56, .f32⟩
  | 52 => ⟨S4x192x3136, .f32⟩
  | _ => ⟨S192, .f32⟩

abbrev hbmTy (i : Nat) : BufTy := match i / 128 with
  | 0 => hbmTy0_0 i
  | 1 => hbmTy0_1 i
  | 2 => hbmTy0_2 i
  | _ => ⟨S192, .f32⟩

abbrev bufTy : (tb : Table) → Fin (tcTables nBuf tb) → BufTy
  | .hbm, ⟨i, _⟩ => hbmTy i
  | _, _ => ⟨S192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_values : Ref sig .tc := ⟨.hbm, 70, rfl⟩
abbrev main_indices : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_18 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_c : Ref sig .tc := ⟨.hbm, 148, rfl⟩
abbrev main_v123 : Ref sig .tc := ⟨.hbm, 149, rfl⟩
abbrev main_v124 : Ref sig .tc := ⟨.hbm, 150, rfl⟩
abbrev main_c_19 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_c_20 : Ref sig .tc := ⟨.hbm, 155, rfl⟩
abbrev main_v128 : Ref sig .tc := ⟨.hbm, 156, rfl⟩
abbrev main_v129 : Ref sig .tc := ⟨.hbm, 157, rfl⟩
abbrev main_c_21 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_c_22 : Ref sig .tc := ⟨.hbm, 166, rfl⟩
abbrev main_v137 : Ref sig .tc := ⟨.hbm, 167, rfl⟩
abbrev main_v138 : Ref sig .tc := ⟨.hbm, 168, rfl⟩
abbrev main_c_23 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_c_24 : Ref sig .tc := ⟨.hbm, 175, rfl⟩
abbrev main_v144 : Ref sig .tc := ⟨.hbm, 176, rfl⟩
abbrev main_v145 : Ref sig .tc := ⟨.hbm, 177, rfl⟩
abbrev main_c_25 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_26 : Ref sig .tc := ⟨.hbm, 185, rfl⟩
abbrev main_v152 : Ref sig .tc := ⟨.hbm, 186, rfl⟩
abbrev main_v153 : Ref sig .tc := ⟨.hbm, 187, rfl⟩
abbrev main_cst_27 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_28 : Ref sig .tc := ⟨.hbm, 194, rfl⟩
abbrev main_v159 : Ref sig .tc := ⟨.hbm, 195, rfl⟩
abbrev main_v160 : Ref sig .tc := ⟨.hbm, 196, rfl⟩
abbrev main_cst_29 : Ref sig .tc := ⟨.hbm, 197, rfl⟩
abbrev main_v161 : Ref sig .tc := ⟨.hbm, 198, rfl⟩
abbrev main_v162 : Ref sig .tc := ⟨.hbm, 199, rfl⟩
abbrev main_cst_30 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_cst_31 : Ref sig .tc := ⟨.hbm, 215, rfl⟩
abbrev main_v177 : Ref sig .tc := ⟨.hbm, 216, rfl⟩
abbrev main_v178 : Ref sig .tc := ⟨.hbm, 217, rfl⟩
abbrev main_cst_32 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_c_33 : Ref sig .tc := ⟨.hbm, 231, rfl⟩
abbrev main_v191 : Ref sig .tc := ⟨.hbm, 232, rfl⟩
abbrev main_v192 : Ref sig .tc := ⟨.hbm, 233, rfl⟩
abbrev main_c_34 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_c_35 : Ref sig .tc := ⟨.hbm, 238, rfl⟩
abbrev main_v196 : Ref sig .tc := ⟨.hbm, 239, rfl⟩
abbrev main_v197 : Ref sig .tc := ⟨.hbm, 240, rfl⟩
abbrev main_c_36 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_c_37 : Ref sig .tc := ⟨.hbm, 249, rfl⟩
abbrev main_v205 : Ref sig .tc := ⟨.hbm, 250, rfl⟩
abbrev main_v206 : Ref sig .tc := ⟨.hbm, 251, rfl⟩
abbrev main_c_38 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_c_39 : Ref sig .tc := ⟨.hbm, 258, rfl⟩
abbrev main_v212 : Ref sig .tc := ⟨.hbm, 259, rfl⟩
abbrev main_v213 : Ref sig .tc := ⟨.hbm, 260, rfl⟩
abbrev main_c_40 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_cst_41 : Ref sig .tc := ⟨.hbm, 268, rfl⟩
abbrev main_v220 : Ref sig .tc := ⟨.hbm, 269, rfl⟩
abbrev main_v221 : Ref sig .tc := ⟨.hbm, 270, rfl⟩
abbrev main_cst_42 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_cst_43 : Ref sig .tc := ⟨.hbm, 277, rfl⟩
abbrev main_v227 : Ref sig .tc := ⟨.hbm, 278, rfl⟩
abbrev main_v228 : Ref sig .tc := ⟨.hbm, 279, rfl⟩
abbrev main_cst_44 : Ref sig .tc := ⟨.hbm, 280, rfl⟩
abbrev main_v229 : Ref sig .tc := ⟨.hbm, 281, rfl⟩
abbrev main_v230 : Ref sig .tc := ⟨.hbm, 282, rfl⟩
abbrev main_cst_45 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_cst_46 : Ref sig .tc := ⟨.hbm, 298, rfl⟩
abbrev main_v245 : Ref sig .tc := ⟨.hbm, 299, rfl⟩
abbrev main_v246 : Ref sig .tc := ⟨.hbm, 300, rfl⟩
abbrev main_cst_47 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩

abbrev nD : Nat := 1
abbrev τ : Topo := Topo.v7x

variable {F : FTy → Type} [FloatOps F]
-- ==== Proof.Rank.lean ====
/-
  Ranking eight values: the greatest and the next greatest, the earlier of two equal ones first, as a stable sort
  finds them and as a maximum followed by a smallest matching index finds them.
-/
module

public import Idealize.ShloMosaic.PureOps.Reduce
public import Idealize.ShloMosaic.PureOps.Ideal.Laws
public import Idealize.ShloMosaic.Lib.SortFacts

@[expose] public section

set_option maxRecDepth 16384

noncomputable section

namespace Cert.Moe

open Idealize.ShloMosaic

/-- `a` ranks ahead of `b`: a greater value, or an equal one at an earlier place. -/
def Ahead {n : Nat} (q : Fin n → EReal) (a b : Fin n) : Prop := q b < q a ∨ (q a = q b ∧ a < b)

theorem Ahead.asymm {n : Nat} {q : Fin n → EReal} {a b : Fin n} (h : Ahead q a b) (h' : Ahead q b a) : False := by
  rcases h with h | ⟨h, l⟩ <;> rcases h' with h' | ⟨h', l'⟩
  · exact lt_asymm h h'
  · exact absurd h (by rw [h']; exact lt_irrefl _)
  · exact absurd h' (by rw [h]; exact lt_irrefl _)
  · exact lt_asymm l l'

theorem insert_mem {ι : Type} (B : ι → ι → Bool) (a : ι) (l : List ι) (c : ι) :
    c ∈ insertBefore B a l ↔ c = a ∨ c ∈ l := by
  induction l with
  | nil => simp [insertBefore]
  | cons b l ih =>
    unfold insertBefore
    split
    · simp only [List.mem_cons, ih]; tauto
    · simp only [List.mem_cons]

theorem sort_mem {ι : Type} (B : ι → ι → Bool) (l : List ι) (c : ι) : c ∈ stableSort B l ↔ c ∈ l := by
  induction l with
  | nil => simp [stableSort]
  | cons b l ih => unfold stableSort; rw [insert_mem, ih]; simp

theorem insert_ranked {n : Nat} (q : Fin n → EReal) (a : Fin n) (l : List (Fin n)) (hl : l.Pairwise (Ahead q))
    (ha : ∀ b ∈ l, a < b) : (insertBefore (fun i j => decide (q j < q i)) a l).Pairwise (Ahead q) := by
  induction l with
  | nil => simp [insertBefore]
  | cons b l ih =>
    have hb := List.pairwise_cons.1 hl
    unfold insertBefore
    split
    next h =>
      refine List.pairwise_cons.2 ⟨fun c hc => ?_, ih hb.2 fun c hc => ha c (by simp [hc])⟩
      rcases (insert_mem _ _ _ _).1 hc with rfl | hc
      · exact .inl (by simpa using h)
      · exact hb.1 c hc
    next h =>
      refine List.pairwise_cons.2 ⟨fun c hc => ?_, hl⟩
      have hab : q b ≤ q a := by simpa using h
      rcases List.mem_cons.1 hc with rfl | hc'
      · exact hab.lt_or_eq.imp_right fun e => ⟨e.symm, ha _ (by simp)⟩
      · rcases hb.1 c hc' with h1 | ⟨h1, _⟩
        · exact .inl (h1.trans_le hab)
        · rcases hab.lt_or_eq with h2 | h2
          · exact .inl (h1 ▸ h2)
          · exact .inr ⟨h2.symm.trans h1, ha c hc⟩

theorem sort_ranked {n : Nat} (q : Fin n → EReal) (l : List (Fin n)) (hl : l.Pairwise (· < ·)) :
    (stableSort (fun i j => decide (q j < q i)) l).Pairwise (Ahead q) := by
  induction l with
  | nil => simp [stableSort]
  | cons a l ih =>
    have h := List.pairwise_cons.1 hl
    unfold stableSort
    exact insert_ranked q a _ (ih h.2) fun b hb => h.1 b ((sort_mem _ _ _).1 hb)

/-- The place of the `k`-th value in rank order. -/
def place {n : Nat} (q : Fin n → EReal) (k : Fin n) : Fin n := sortedFrom (fun i j => decide (q j < q i)) k

theorem place_ahead {n : Nat} (q : Fin n → EReal) {k l : Fin n} (h : k < l) : Ahead q (place q k) (place q l) := by
  have hp := sort_ranked q (List.finRange n) (List.pairwise_lt_finRange n)
  exact List.pairwise_iff_get.1 hp _ _ (Fin.mk_lt_mk.2 h)

theorem place_surj {n : Nat} (q : Fin n → EReal) (e : Fin n) : ∃ k, place q k = e := sortedFrom_surjective _ e

/-- `e` ranks ahead of every other place. -/
def First {n : Nat} (q : Fin n → EReal) (e : Fin n) : Prop := ∀ e', e' ≠ e → Ahead q e e'

theorem place_first (q : Fin 8 → EReal) : First q (place q 0) := by
  intro e' he
  obtain ⟨k, rfl⟩ := place_surj q e'
  exact place_ahead q (Fin.pos_of_ne_zero fun h => he (by rw [h]))

theorem First.unique {q : Fin 8 → EReal} {e e' : Fin 8} (h : First q e) (h' : First q e') : e = e' := by
  by_contra hn
  exact (h e' (Ne.symm hn)).asymm (h' e hn)

theorem First.le {q : Fin 8 → EReal} {e : Fin 8} (h : First q e) (e' : Fin 8) : q e' ≤ q e := by
  by_cases hn : e' = e
  · rw [hn]
  · rcases h e' hn with h | h
    · exact h.le
    · exact h.1.ge

/-- The values with the first place struck out at `-1`. -/
def struck (q : Fin 8 → EReal) : Fin 8 → EReal := fun e => if e = place q 0 then -1 else q e

theorem place_ne (q : Fin 8 → EReal) : place q 1 ≠ place q 0 := fun h => by
  have := place_ahead q (show (0 : Fin 8) < 1 by decide)
  rw [h] at this
  exact this.asymm this

/-- Above `-1`, striking the first place out makes the second the first. -/
theorem struck_first (q : Fin 8 → EReal) (hq : ∀ e, -1 < q e) : First (struck q) (place q 1) := by
  intro e' he
  have hn := place_ne q
  by_cases h0 : e' = place q 0
  · subst h0
    refine .inl ?_
    simp only [struck, if_true, if_neg hn]; exact hq _
  · obtain ⟨k, rfl⟩ := place_surj q e'
    have hk : (1 : Fin 8) < k := by
      rcases Nat.lt_or_ge 1 k.val with h | h
      · exact h
      · exfalso
        have : k = 0 ∨ k = 1 := by omega
        rcases this with rfl | rfl
        · exact h0 rfl
        · exact he rfl
    have := place_ahead q hk
    simpa only [Ahead, struck, if_neg hn, if_neg h0] using this

theorem place_struck (q : Fin 8 → EReal) (hq : ∀ e, -1 < q e) : place (struck q) 0 = place q 1 :=
  (place_first _).unique (struck_first q hq)

theorem struck_place (q : Fin 8 → EReal) : struck q (place q 1) = q (place q 1) := if_neg (place_ne q)

/-- The largest of eight values. -/
theorem fold_max (q : Fin 8 → EReal) : Finset.univ.fold max ⊥ q = q (place q 0) := by
  refine le_antisymm ?_ ?_
  · rw [Finset.fold_max_le]; exact ⟨bot_le, fun e _ => (place_first q).le e⟩
  · rw [Finset.le_fold_max]; exact .inr ⟨_, Finset.mem_univ _, le_rfl⟩

theorem minsi_le (x a b : BitVec 32) :
    x.toInt ≤ (IKind.op .minsi a b).toInt ↔ x.toInt ≤ a.toInt ∧ x.toInt ≤ b.toInt := by
  simp only [IKind.op, IntOp.minsi]
  split <;> rename_i h <;> simp only [BitVec.slt, decide_eq_true_eq] at h <;> omega

/-- The smallest place holding the largest value. -/
theorem fold_place (q : Fin 8 → EReal) :
    Finset.univ.fold (IKind.op .minsi) 2147483647#32 (fun e : Fin 8 => if q e = q (place q 0) then BitVec.ofNat 32 e.val else 8#32)
      = BitVec.ofNat 32 (place q 0).val := by
  have hi : ∀ e : Fin 8, (BitVec.ofNat 32 e.val).toInt = e.val := by decide
  apply BitVec.eq_of_toInt_eq
  apply le_antisymm
  · have h := ((Finset.fold_op_rel_iff_and (r := fun x y : BitVec 32 => x.toInt ≤ y.toInt) (fun {x y z} => minsi_le x y z)).1
      (le_refl (Finset.univ.fold (IKind.op .minsi) 2147483647#32
        (fun e : Fin 8 => if q e = q (place q 0) then BitVec.ofNat 32 e.val else 8#32)).toInt)).2 (place q 0) (Finset.mem_univ _)
    rwa [if_pos rfl] at h
  · rw [Finset.fold_op_rel_iff_and (r := fun x y : BitVec 32 => x.toInt ≤ y.toInt) (fun {x y z} => minsi_le x y z)]
    refine ⟨by
      rw [hi, show (2147483647#32).toInt = 2147483647 by decide]; have := (place q 0).isLt; omega, fun e _ => ?_⟩
    split
    next h =>
      rw [hi, hi]
      by_cases hn : e = place q 0
      · rw [← hn]
      · rcases place_first q e hn with h' | h'
        · exact absurd h h'.ne
        · exact_mod_cast h'.2.le
    next h => rw [hi]; have := (place q 0).isLt; simp

end Cert.Moe

end
-- ==== Proof.Spec.lean ====
/-
  What one image of the batch comes to, as plain functions: the router's gate over eight experts, the 3x3 grouped
  convolution of an expert at zero padding, the group normalisation of its 192 channels and the weighted sum of the
  two experts chosen. Both programs are later read as these functions.
-/
module

public import proofs.«01_k».proof.Proof.Rank

@[expose] public section

set_option maxRecDepth 16384

noncomputable section

namespace Cert.Moe

open Idealize.ShloMosaic
open scoped BigOperators

/-! ## Sums split along a product of two extents -/

/-- Place `y` of run `x`, of runs of length `n`. -/
def cell {m n k : Nat} (h : m * n = k) (x : Fin m) (y : Fin n) : Fin k :=
  ⟨x.val * n + y.val, by
    have := x.isLt; have := y.isLt
    calc x.val * n + y.val < x.val * n + n := by omega
      _ = (x.val + 1) * n := by ring
      _ ≤ m * n := Nat.mul_le_mul_right _ (by omega)
      _ = k := h⟩

theorem sum_cells {A : Type} [AddCommMonoid A] {m n k : Nat} (h : m * n = k) (f : Fin k → A) :
    ∑ x : Fin m, ∑ y : Fin n, f (cell h x y) = ∑ i, f i := by
  subst h
  rw [← Fintype.sum_prod_type', ← Equiv.sum_comp finProdFinEquiv f]
  refine Finset.sum_congr rfl fun p _ => congrArg f (Fin.ext ?_)
  simp only [cell, finProdFinEquiv, Equiv.coe_fn_mk]
  ring

theorem sum_halves {A : Type} [AddCommMonoid A] (f : Fin 384 → A) :
    ∑ i, f i = ∑ i : Fin 192, f ⟨i.val, by omega⟩ + ∑ i : Fin 192, f ⟨192 + i.val, by omega⟩ :=
  Fin.sum_univ_add (a := 192) (b := 192) f

/-- Only the rows of group `g` counted. -/
theorem sum_group {A : Type} [AddCommMonoid A] (g : Fin 8) (f : Fin 192 → A) :
    (∑ c : Fin 192, if c.val / 24 = g.val then f c else 0) = ∑ x : Fin 24, f (cell (by rfl : 8 * 24 = 192) g x) := by
  rw [← sum_cells (by rfl : 8 * 24 = 192), Finset.sum_eq_single g]
  · refine Finset.sum_congr rfl fun x _ => if_pos ?_
    have := x.isLt; simp only [cell]; omega
  · intro g' _ hn
    refine Finset.sum_eq_zero fun x _ => if_neg fun h => hn (Fin.ext ?_)
    have := x.isLt; simp only [cell] at h; omega
  · intro h; exact absurd (Finset.mem_univ _) h

/-! ## Real values among the extended reals -/

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem sqrt_real (a : ℝ) (ha : 0 ≤ a) : Ideal.sqrt (a : EReal) = ((Real.sqrt a : ℝ) : EReal) := by
  show (if a < 0 then (⊥ : EReal) else (Real.sqrt a : EReal)) = _
  rw [if_neg (not_lt.2 ha)]

theorem rsqrt_real (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

theorem exp_real (a : ℝ) : Ideal.exp (a : EReal) = ((Real.exp a : ℝ) : EReal) := rfl

theorem word_count : Ideal.ofBits .f32 1200816128#32 = ((75264 : ℝ) : EReal) := by
  simp [Ideal.ofBits, Ideal.ieee]; norm_num; rw [← EReal.coe_mul]; norm_num
theorem word_low : Ideal.ofBits .f32 3253731328#32 = ((-30 : ℝ) : EReal) := by
  simp [Ideal.ofBits, Ideal.ieee]; norm_num; rw [← EReal.coe_mul]; norm_num
theorem word_high : Ideal.ofBits .f32 1106247680#32 = ((30 : ℝ) : EReal) := by
  simp [Ideal.ofBits, Ideal.ieee]; norm_num; rw [← EReal.coe_mul]; norm_num
theorem word_bot : Ideal.ofBits .f32 4286578688#32 = (⊥ : EReal) := by
  simp [Ideal.ofBits, Ideal.ieee]
theorem word_minus : Ideal.ofBits .f32 0xBF800000#32 = (-1 : EReal) := by
  simp [Ideal.ofBits, Ideal.ieee]; rw [← EReal.coe_mul]; norm_num

/-- The constant added under the root. -/
def tiny : ℝ := 10995116 / 2 ^ 40
theorem tiny_pos : 0 < tiny := by unfold tiny; positivity
theorem word_tiny : Ideal.ofBits .f32 925353388#32 = (tiny : EReal) := by
  unfold tiny; simp [Ideal.ofBits, Ideal.ieee]; norm_num; rw [← EReal.coe_mul]; norm_num

/-! ## The router -/

/-- Mean and spread of a channel over its pixels, as both programs compute them. -/
def avg (X : Fin 192 → Fin 3136 → EReal) (c : Fin 192) : EReal :=
  Ideal.div (∑ p, X c p) (Ideal.ofBits .f32 1162084352#32)
def spread (X : Fin 192 → Fin 3136 → EReal) (c : Fin 192) : EReal :=
  Ideal.sqrt (Ideal.div (∑ p, (X c p - avg X c) * (X c p - avg X c)) (Ideal.ofBits .f32 1162080256#32))

/-- The router's score of expert `e`. -/
def score (X : Fin 192 → Fin 3136 → EReal) (R : Fin 8 → Fin 384 → EReal) (e : Fin 8) : EReal :=
  (∑ c : Fin 192, R e ⟨c.val, by omega⟩ * avg X c) + ∑ c : Fin 192, R e ⟨192 + c.val, by omega⟩ * spread X c

/-- Softmax over the eight experts. -/
def soft (l : Fin 8 → EReal) (e : Fin 8) : EReal :=
  Ideal.div (Ideal.exp (l e - Finset.univ.fold max ⊥ l)) (∑ e', Ideal.exp (l e' - Finset.univ.fold max ⊥ l))

def clip (x : EReal) : EReal := min (Ideal.ofBits .f32 1106247680#32) (max (Ideal.ofBits .f32 3253731328#32) x)

/-- The gate: softmax, clipped, softmax again. -/
def gate (l : Fin 8 → EReal) : Fin 8 → EReal := soft fun e => clip (soft l e)

theorem clip_real (x : EReal) : ∃ r : ℝ, clip x = r := by
  have h1 : clip x ≤ ((30 : ℝ) : EReal) := by unfold clip; rw [word_high]; exact min_le_left _ _
  have h2 : ((-30 : ℝ) : EReal) ≤ clip x := by
    unfold clip; rw [word_high, word_low]
    exact le_min (by exact_mod_cast (by norm_num : (-30 : ℝ) ≤ 30)) (le_max_left _ _)
  refine ⟨(clip x).toReal, (EReal.coe_toReal ?_ ?_).symm⟩
  · exact ne_top_of_le_ne_top (EReal.coe_ne_top _) h1
  · exact ne_bot_of_le_ne_bot (EReal.coe_ne_bot _) h2

theorem soft_pos (l : Fin 8 → EReal) (hl : ∀ e, ∃ r : ℝ, l e = r) (e : Fin 8) : -1 < soft l e := by
  choose r hr using hl
  have hm : Finset.univ.fold max ⊥ l = (r (place l 0) : EReal) := by rw [fold_max, hr]
  have he : ∀ e, Ideal.exp (l e - Finset.univ.fold max ⊥ l) = ((Real.exp (r e - r (place l 0)) : ℝ) : EReal) := fun e => by
    rw [hm, hr, ← EReal.coe_sub, exp_real]
  unfold soft
  simp only [he]
  rw [← coe_sum, div_real _ _ (Finset.sum_pos (fun e _ => Real.exp_pos _) ⟨0, Finset.mem_univ _⟩).ne']
  have : (0 : ℝ) ≤ Real.exp (r e - r (place l 0)) / ∑ e, Real.exp (r e - r (place l 0)) :=
    div_nonneg (Real.exp_pos _).le (Finset.sum_nonneg fun e _ => (Real.exp_pos _).le)
  have h1 : ((-1 : ℝ) : EReal) < ((Real.exp (r e - r (place l 0)) / ∑ e, Real.exp (r e - r (place l 0)) : ℝ) : EReal) := by
    exact_mod_cast lt_of_lt_of_le (by norm_num) this
  simpa using h1

theorem gate_pos (l : Fin 8 → EReal) (e : Fin 8) : -1 < gate l e := soft_pos _ (fun e => clip_real _) e

/-- The weight of the `k`-th expert chosen. -/
def share (l : Fin 8 → EReal) (k : Fin 8) : EReal :=
  Ideal.div (gate l (place (gate l) k))
    (gate l (place (gate l) 0) + gate l (place (gate l) 1) + Ideal.ofBits .f32 897988541#32)

/-! ## The convolution -/

/-- The pixel that tap `t` of pixel `p` reads, if it lies in the image. -/
def tapIn (t p : Nat) : Prop := 1 ≤ p / 56 + t / 3 ∧ p / 56 + t / 3 ≤ 56 ∧ 1 ≤ p % 56 + t % 3 ∧ p % 56 + t % 3 ≤ 56
instance (t p : Nat) : Decidable (tapIn t p) := by unfold tapIn; infer_instance

theorem tap_lt {t p : Nat} (h : tapIn t p) : (p / 56 + t / 3 - 1) * 56 + (p % 56 + t % 3 - 1) < 3136 := by
  obtain ⟨h1, h2, h3, h4⟩ := h; omega

/-- What tap `t` of pixel `p` reads of a channel: zero outside the image. -/
def tap (f : Fin 3136 → ℝ) (t p : Nat) : ℝ :=
  if h : tapIn t p then f ⟨(p / 56 + t / 3 - 1) * 56 + (p % 56 + t % 3 - 1), tap_lt h⟩ else 0

/-- Channel `c` of expert `e`'s group of input channels. -/
abbrev chan (e : Fin 8) (c : Fin 24) : Fin 192 := cell (by rfl : 8 * 24 = 192) e c
/-- Weight row `o` of expert `e`. -/
abbrev wrow (e : Fin 8) (o : Fin 192) : Fin 1536 := cell (by rfl : 8 * 192 = 1536) e o
/-- Channel `c` of tap `t` in the row order of the weights. -/
abbrev wcol (t : Fin 9) (c : Fin 24) : Fin 216 := cell (by rfl : 9 * 24 = 216) t c

/-- Expert `e`'s convolution at output channel `o` and pixel `p`. -/
def conv (x : Fin 192 → Fin 3136 → ℝ) (w : Fin 1536 → Fin 216 → ℝ) (e : Fin 8) (o : Fin 192) (p : Fin 3136) : ℝ :=
  ∑ t : Fin 9, ∑ c : Fin 24, w (wrow e o) (wcol t c) * tap (x (chan e c)) t.val p.val

/-! ## The group normalisation -/

/-- A channel's group. -/
abbrev grp (c : Fin 192) : Fin 8 := ⟨c.val / 24, by omega⟩

def total (y : Fin 192 → Fin 3136 → ℝ) (g : Fin 8) : ℝ := ∑ c : Fin 192, if c.val / 24 = g.val then ∑ p, y c p else 0
def gmean (y : Fin 192 → Fin 3136 → ℝ) (g : Fin 8) : ℝ := total y g / 75264
def gvar (y : Fin 192 → Fin 3136 → ℝ) (g : Fin 8) : ℝ :=
  total (fun c p => y c p * y c p) g / 75264 - gmean y g * gmean y g

theorem total_eq (y : Fin 192 → Fin 3136 → ℝ) (g : Fin 8) : total y g = ∑ x : Fin 24, ∑ p, y (chan g x) p :=
  sum_group g fun c => ∑ p, y c p

/-- The mean of the squares less the square of the mean is the mean of the squared deviations. -/
theorem gvar_eq (y : Fin 192 → Fin 3136 → ℝ) (g : Fin 8) :
    gvar y g = (∑ x : Fin 24, ∑ p, (y (chan g x) p - gmean y g) * (y (chan g x) p - gmean y g)) / 75264 := by
  have h : ∀ x : Fin 24, ∑ p, (y (chan g x) p - gmean y g) * (y (chan g x) p - gmean y g)
      = ∑ p, y (chan g x) p * y (chan g x) p - 2 * gmean y g * ∑ p, y (chan g x) p + 3136 * (gmean y g * gmean y g) := by
    intro x
    rw [Finset.mul_sum, ← Finset.sum_sub_distrib,
      show (3136 : ℝ) * (gmean y g * gmean y g) = ∑ _p : Fin 3136, gmean y g * gmean y g by simp, ← Finset.sum_add_distrib]
    exact Finset.sum_congr rfl fun p _ => by ring
  have ht : total y g = 75264 * gmean y g := by unfold gmean; ring
  simp only [h]
  rw [Finset.sum_add_distrib, Finset.sum_sub_distrib, ← Finset.mul_sum, ← total_eq, ht]
  unfold gvar
  rw [total_eq]
  simp only [Finset.sum_const, Finset.card_univ, Fintype.card_fin, nsmul_eq_mul]
  push_cast
  ring

theorem gvar_nonneg (y : Fin 192 → Fin 3136 → ℝ) (g : Fin 8) : 0 ≤ gvar y g := by
  rw [gvar_eq]
  exact div_nonneg (Finset.sum_nonneg fun _ _ => Finset.sum_nonneg fun _ _ => mul_self_nonneg _) (by norm_num)

theorem gvar_tiny (y : Fin 192 → Fin 3136 → ℝ) (g : Fin 8) : 0 < gvar y g + tiny := by
  have := gvar_nonneg y g; have := tiny_pos; linarith

/-- A channel normalised in its group, scaled and shifted. -/
def normed (y : Fin 192 → Fin 3136 → ℝ) (a : Fin 192 → ℝ) (b : Fin 192 → EReal) (c : Fin 192) (p : Fin 3136) : EReal :=
  (((y c p - gmean y (grp c)) * (Real.sqrt (gvar y (grp c) + tiny))⁻¹ * a c : ℝ) : EReal) + b c

/-- Scale and shift folded into one multiply and one add. -/
theorem folded (y i a g : ℝ) (b : EReal) :
    (y : EReal) * ((i : EReal) * (a : EReal)) + (b - (g : EReal) * ((i : EReal) * (a : EReal))) = (((y - g) * i * a : ℝ) : EReal) + b := by
  rw [← EReal.coe_mul, ← EReal.coe_mul, ← EReal.coe_mul]
  induction b using EReal.rec with
  | bot => rw [EReal.bot_sub, EReal.add_bot, EReal.add_bot]
  | coe b => rw [← EReal.coe_sub, ← EReal.coe_add, ← EReal.coe_add]; congr 1; ring
  | top => rw [EReal.top_sub_coe, EReal.coe_add_top, EReal.coe_add_top]

/-- A value times its logistic. -/
def silu (z : EReal) : EReal := z * Ideal.logistic z

/-! ## One image's result -/

section
variable (X : Fin 192 → Fin 3136 → EReal) (R : Fin 8 → Fin 384 → EReal) (W : Fin 1536 → Fin 216 → EReal)
  (A B : Fin 8 → Fin 192 → EReal)

/-- The `k`-th expert's normalised convolution. -/
def branch (e : Fin 8) : Fin 192 → Fin 3136 → EReal :=
  normed (conv (fun c p => (X c p).toReal) (fun r k => (W r k).toReal) e) (fun c => (A e c).toReal) (B e)

/-- The two chosen experts' outputs, weighted and summed. -/
def moe (c : Fin 192) (p : Fin 3136) : EReal :=
  share (score X R) 0 * silu (branch X W A B (place (gate (score X R)) 0) c p)
    + share (score X R) 1 * silu (branch X W A B (place (gate (score X R)) 1) c p)
end

end Cert.Moe

end
-- ==== Proof.Body.lean ====
/-
  The kernel body run once at symbolic operands. The body computes the two chosen expert numbers from the block it
  loads and assumes of each that the channel group and the weight rows it names lie inside their arrays; the run takes
  those two facts as hypotheses for every pair of vectors (`Chosen`), which the ideal values satisfy (KRouter.lean).
-/
module

public import proofs.«01_k».proof.Proof.Gen.KernelIdeal.Frame
public import proofs.«01_k».proof.Proof.Gen.KernelIdeal.Skeleton

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The expert numbers the body computes name groups inside the arrays. -/
structure Chosen (F : FTy → Type) [FloatOps F] : Prop where
  first : ∀ a b : FVec F S8x1 .f32, k0_chk1 (extractAt ![0, 0, 0] (k0_pay6 a b) inpos_S1x1x1_p0_0_0)
  second : ∀ a b : FVec F S8x1 .f32, k0_chk2 (extractAt ![0, 0, 0] (k0_pay9 a b) inpos_S1x1x1_p0_0_0)

set_option maxHeartbeats 2000000 in
/-- The body's run: from the five input blocks, the result's buffer and the two scratch buffers it comes to its
    return with the inputs as they were, and each written buffer at the pieces the run finds. -/
def bodyRun (H : Chosen F) (c : Dev nD) (i : grid0.Coords)
    (A1 : Memref sig .tc .vmem S1x192x3136 .f32) (h1 : A1.IsWhole) (A2 : Memref sig .tc .vmem S8x384 .f32) (h2 : A2.IsWhole)
    (A3 : Memref sig .tc .vmem S1536x216 .bf16) (h3 : A3.IsWhole) (A4 : Memref sig .tc .vmem S192x8 .f32) (h4 : A4.IsWhole)
    (A5 : Memref sig .tc .vmem S192x8 .f32) (h5 : A5.IsWhole) (A6 : Memref sig .tc .vmem S1x192x3136 .f32) (h6 : A6.IsWhole)
    (A7 : Memref sig .tc .vmem S24x3250 .f32) (h7 : A7.IsWhole) (A8 : Memref sig .tc .vmem S216x3136 .bf16) (h8 : A8.IsWhole)
    (x0 : Vec F S1x192x3136 .f32) (x1 : Vec F S8x384 .f32) (x2 : Vec F S1536x216 .bf16) (x3 : Vec F S192x8 .f32) (x4 : Vec F S192x8 .f32) :
    { L : List (View.Piece (Elt F) S1x192x3136 .f32) //
      ∀ (E : Set ℕ) (K : PUnit → sProp 𝕄),
        iprop(owns (c : Thread nD τ) A1 fullShare x0 ∗ owns (c : Thread nD τ) A2 fullShare x1 ∗ owns (c : Thread nD τ) A3 fullShare x2
            ∗ owns (c : Thread nD τ) A4 fullShare x3 ∗ owns (c : Thread nD τ) A5 fullShare x4 ∗ (∃ d, owns (c : Thread nD τ) A6 fullShare d)
            ∗ (∃ d, owns (c : Thread nD τ) A7 fullShare d) ∗ (∃ d, owns (c : Thread nD τ) A8 fullShare d)
            ∗ (iprop(owns (c : Thread nD τ) A1 fullShare x0 ∗ owns (c : Thread nD τ) A2 fullShare x1 ∗ owns (c : Thread nD τ) A3 fullShare x2
                ∗ owns (c : Thread nD τ) A4 fullShare x3 ∗ owns (c : Thread nD τ) A5 fullShare x4
                ∗ (∃ f, A6.view.loc (c : Thread nD τ) ↦[A6.view.set]{fullShare} A6.view.writes (Elt F) f L)
                ∗ (∃ d, owns (c : Thread nD τ) A7 fullShare d) ∗ (∃ d, owns (c : Thread nD τ) A8 fullShare d)) -∗ K ⟨⟩))
          ⊢ wp frame (wpE (defs₀ (F := F)) Variants.none c none) E
              (cc0__moe_kernel i A1 h1 A2 h2 A3 h3 A4 h4 A5 h5 A6 h6 A7 h7 A8 h8) K } := by
  refine ⟨?_, fun E K => ?run⟩
  case run =>
    simp only [cc0__moe_kernel_eq_skeleton]; unfold cc0__moe_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := h1.eq_unread hf0; obtain rfl := h2.eq_unread hf1; obtain rfl := h3.eq_unread hf2
    obtain rfl := h4.eq_unread hf3; obtain rfl := h5.eq_unread hf4
    sl_exec (disch := first | (guard_target = k0_chk1 _; exact H.first _ _) | (guard_target = k0_chk2 _; exact H.second _ _))
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]; · iexists _; iexact H5
    isplitl [H6]
    · iexists _; iexists _; isplitr
      swap; · iexact H6
      ipureintro; rfl
    iexists _; iexists _; isplitr
    swap; · iexact H7
    ipureintro; rfl

end Cert.Moe

end
-- ==== Proof.KRouter.lean ====
/-
  The kernel's router over the extended reals: the gate it computes, the two experts it picks by a maximum and the
  smallest place holding it, and their weights. The experts picked are in range whatever the arguments hold.
-/
module

public import proofs.«01_k».proof.Proof.Spec
public import proofs.«01_k».proof.Proof.Body
public import Idealize.ShloMosaic.Lib.Pipeline.ValueKit

@[expose] public section

set_option maxRecDepth 16384

noncomputable section

namespace Cert.Moe

open Cert.KernelIdeal Cert.KernelIdeal.Gen
open Idealize.ShloMosaic Idealize.ShloMosaic.TcCoe Idealize.ShloMosaic.Tactic
open scoped BigOperators

/-- A fold over pairs whose second coordinate is trivial. -/
theorem fold_pair {A : Type} (op : A → A → A) [Std.Commutative op] [Std.Associative op] (b : A) (f : Fin 8 → A) :
    Finset.univ.fold op b (fun x : Fin 8 × Fin 1 => f x.1) = Finset.univ.fold op b f := by
  have h : (Finset.univ : Finset (Fin 8 × Fin 1)) = Finset.univ.map ⟨fun e : Fin 8 => (e, (0 : Fin 1)), fun a b h => (Prod.mk.inj h).1⟩ := by
    decide
  rw [h, Finset.fold_map]; rfl

/-- A choice by equality of two places written as words. -/
theorem select_place {A : Type} (e i : Fin 8) (u v : A) :
    Scalar.select (IntOp.cmpi .eq (BitVec.ofNat 32 e.val) (BitVec.ofNat 32 i.val)) u v = if e = i then u else v := by
  have h : ∀ e i : Fin 8, IntOp.cmpi .eq (BitVec.ofNat 32 e.val) (BitVec.ofNat 32 i.val) = if e = i then 1#1 else 0#1 := by decide
  rw [h]
  split <;> simp [Scalar.select]

/-- An index of a column is its row. -/
theorem col_eq (j : S8x1.Idx) : j = ix2 (j 0) (0 : Fin 1) := by
  funext d
  match d with
  | ⟨0, _⟩ => rfl
  | ⟨1, _⟩ => exact Fin.ext (by have : (j 1).val < 1 := (j 1).isLt; show (j 1).val = 0; omega)

section
variable (a b : FVec Ideal S8x1 .f32)

/-- The gate's values as the kernel ranks them. -/
def ranked (e : Fin 8) : EReal := k0_pay4 (F := Ideal) a b (ix2 e 0)

theorem pay5_eq : k0_pay5 (F := Ideal) a b = ranked a b (place (ranked a b) 0) := by
  rw [← fold_max (ranked a b), ← fold_pair]
  unfold k0_pay5
  pointwise
  rw [word_bot]; rfl

theorem first_eq : extractAt ![0, 0, 0] (k0_pay6 (F := Ideal) a b) inpos_S1x1x1_p0_0_0
    = BitVec.ofNat 32 (place (ranked a b) 0).val := by
  rw [← fold_place, ← fold_pair, ← pay5_eq]
  unfold k0_pay6
  pointwise
  rfl

theorem pay7_eq (e : Fin 8) : k0_pay7 (F := Ideal) a b (ix2 e 0) = struck (ranked a b) e := by
  unfold k0_pay7
  rw [first_eq]
  pointwise
  rw [select_place, word_minus]; rfl

theorem pay7_fun : k0_pay7 (F := Ideal) a b = fun j : S8x1.Idx => struck (ranked a b) (j 0) := by
  funext j
  rw [col_eq j]; exact pay7_eq a b _

theorem pay8_eq : k0_pay8 (F := Ideal) a b = struck (ranked a b) (place (struck (ranked a b)) 0) := by
  rw [← fold_max (struck (ranked a b)), ← fold_pair]
  unfold k0_pay8
  rw [pay7_fun]
  pointwise
  rw [word_bot]

theorem second_eq : extractAt ![0, 0, 0] (k0_pay9 (F := Ideal) a b) inpos_S1x1x1_p0_0_0
    = BitVec.ofNat 32 (place (struck (ranked a b)) 0).val := by
  rw [← fold_place, ← fold_pair, ← pay8_eq]
  unfold k0_pay9
  rw [pay7_fun]
  pointwise

theorem in_range_first : ∀ e : Fin 8, k0_chk1 (BitVec.ofNat 32 e.val) := by decide
theorem in_range_second : ∀ e : Fin 8, k0_chk2 (BitVec.ofNat 32 e.val) := by decide

end

/-- The experts picked are in range. -/
theorem chosen : Chosen Ideal where
  first a b := by rw [first_eq]; exact in_range_first _
  second a b := by rw [second_eq]; exact in_range_second _

section
variable (x : FVec Ideal S1x192x3136 .f32) (u v : FVec Ideal S8x192 .f32)

/-- The router's weights in their two halves, joined. -/
def joined (e : Fin 8) (i : Fin 384) : EReal :=
  if h : i.val < 192 then u (ix2 e ⟨i.val, h⟩) else v (ix2 e ⟨i.val - 192, by omega⟩)

/-- The image's channels. -/
def image (c : Fin 192) (p : Fin 3136) : EReal := x (ix3 0 c p)

theorem joined_left (e : Fin 8) (c : Fin 192) : joined u v e ⟨c.val, by omega⟩ = u (ix2 e c) := dif_pos c.isLt
theorem joined_right (e : Fin 8) (c : Fin 192) : joined u v e ⟨192 + c.val, by omega⟩ = v (ix2 e c) := by
  unfold joined
  rw [dif_neg (by simp)]
  congr 2
  exact Fin.ext (by simp)

theorem pay2_eq (e : Fin 8) : k0_pay2 (F := Ideal) x u v (ix2 e 0) = clip (soft (score (image x) (joined u v)) e) := by
  unfold clip soft score avg spread
  rw [← fold_pair]
  simp only [joined_left, joined_right, image]
  unfold k0_pay2
  pointwise
  rw [word_bot]
  simp only [Finset.univ_unique, Finset.sum_singleton]
  rfl

theorem pay3_eq (e : Fin 8) : k0_pay3 (F := Ideal) x u v (ix2 e 0)
    = Finset.univ.fold max ⊥ fun e => clip (soft (score (image x) (joined u v)) e) := by
  rw [← fold_pair]
  unfold k0_pay3
  pointwise
  rw [word_bot]
  simp only [pay2_eq]

theorem ranked_eq : ranked (k0_pay2 x u v) (k0_pay3 x u v) = gate (score (image x) (joined u v)) := by
  funext e
  unfold ranked gate soft k0_pay4
  pointwise
  simp only [pay2_eq, pay3_eq, Finset.univ_unique, Finset.sum_singleton]
  rfl

theorem struck_ranked : place (struck (ranked (k0_pay2 x u v) (k0_pay3 x u v))) 0
    = place (gate (score (image x) (joined u v))) 1 := by
  rw [ranked_eq, place_struck _ (gate_pos _)]

theorem first_expert : extractAt ![0, 0, 0] (k0_pay6 (F := Ideal) (k0_pay2 x u v) (k0_pay3 x u v)) inpos_S1x1x1_p0_0_0
    = BitVec.ofNat 32 (place (gate (score (image x) (joined u v))) 0).val := by
  rw [first_eq, ranked_eq]

theorem second_expert : extractAt ![0, 0, 0] (k0_pay9 (F := Ideal) (k0_pay2 x u v) (k0_pay3 x u v)) inpos_S1x1x1_p0_0_0
    = BitVec.ofNat 32 (place (gate (score (image x) (joined u v))) 1).val := by
  rw [second_eq, struck_ranked]

theorem pay8_gate : k0_pay8 (F := Ideal) (k0_pay2 x u v) (k0_pay3 x u v)
    = gate (score (image x) (joined u v)) (place (gate (score (image x) (joined u v))) 1) := by
  rw [pay8_eq, struck_ranked, ranked_eq, struck_place]

theorem first_share : k0_pay11 (F := Ideal) (k0_pay2 x u v) (k0_pay3 x u v) = share (score (image x) (joined u v)) 0 := by
  unfold k0_pay11 k0_pay10 share
  rw [pay8_gate, pay5_eq, ranked_eq]; rfl

theorem second_share : k0_pay12 (F := Ideal) (k0_pay2 x u v) (k0_pay3 x u v) = share (score (image x) (joined u v)) 1 := by
  unfold k0_pay12 k0_pay10 share
  rw [pay8_gate, pay5_eq, ranked_eq]; rfl

end

end Cert.Moe

end
-- ==== Proof.KNorm.lean ====
/-
  The kernel's group normalisation: sums over a group taken by a selection matrix, the mean and the variance of the
  group, scale and shift folded into one multiply and one add, and the weighted product with the logistic.
-/
module

public import proofs.«01_k».proof.Proof.KRouter

@[expose] public section

set_option maxRecDepth 16384

noncomputable section

namespace Cert.Moe

open Cert.KernelIdeal Cert.KernelIdeal.Gen
open Idealize.ShloMosaic Idealize.ShloMosaic.TcCoe Idealize.ShloMosaic.Tactic
open scoped BigOperators

/-- The selection matrix's entry. -/
def pick (c : Fin 192) (g : Fin 8) : EReal := if c.val / 24 = g.val then 1 else 0

/-- The condition as the kernel tests it: a signed division by 24 rounded down, compared with the group. -/
def inGroup (c g : BitVec 32) : BitVec 1 :=
  IntOp.cmpi CmpIPredicate.eq
    (Scalar.select
      (IntOp.andi
        (IntOp.cmpi CmpIPredicate.ne
          (IntOp.subi (BitVec.setWidth 32 (IntOp.cmpi CmpIPredicate.sgt c 0#32))
            (BitVec.setWidth 32 (IntOp.cmpi CmpIPredicate.slt c 0#32)))
          (Scalar.subi (Scalar.extui (Scalar.cmpi CmpIPredicate.sgt 24#32 0#32))
            (Scalar.extui (Scalar.cmpi CmpIPredicate.slt 24#32 0#32))))
        (IntOp.cmpi CmpIPredicate.ne (IntOp.remsi ArithUnit.vector c 24#32) 0#32))
      (IntOp.subi (IntOp.divsi ArithUnit.vector c 24#32) 1#32)
      (IntOp.divsi ArithUnit.vector c 24#32))
    g

theorem inGroup_eq : ∀ (c : Fin 192) (g : Fin 8), inGroup (BitVec.ofNat 32 c.val) (BitVec.ofNat 32 g.val)
    = if c.val / 24 = g.val then 1#1 else 0#1 := by decide +kernel

theorem select_inGroup (c : Fin 192) (g : Fin 8) :
    Scalar.select (inGroup (BitVec.ofNat 32 c.val) (BitVec.ofNat 32 g.val)) (1 : EReal) 0 = pick c g := by
  rw [inGroup_eq, pick]
  split <;> rfl

theorem pick_rows : k0_pay17 (F := Ideal) = fun j : S8x192.Idx => pick (j 1) (j 0) := by
  funext j
  obtain ⟨g, c, rfl⟩ : ∃ (g : Fin 8) (c : Fin 192), j = ix2 g c := ⟨j 0, j 1, by funext a; fin_cases a <;> rfl⟩
  unfold k0_pay17
  pointwise
  exact select_inGroup c g

theorem pick_cols : bodyRun.sl.r_5 (F := Ideal) = fun j : S192x8.Idx => pick (j 0) (j 1) := by
  funext j
  obtain ⟨c, g, rfl⟩ : ∃ (c : Fin 192) (g : Fin 8), j = ix2 c g := ⟨j 0, j 1, by funext a; fin_cases a <;> rfl⟩
  unfold bodyRun.sl.r_5 k0_pay20 k0_pay18 k0_pay19 bodyRun.sl.v125 bodyRun.sl.v126
  pointwise
  exact select_inGroup c g

/-- A row of the selection matrix takes the entry of its own group. -/
theorem pick_take (o : Fin 192) (f : Fin 8 → EReal) : ∑ g, pick o g * f g = f (grp o) := by
  rw [Finset.sum_eq_single (grp o)]
  · rw [pick, if_pos rfl, one_mul]
  · intro g _ hn
    rw [pick, if_neg (fun h => hn (Fin.ext h.symm)), zero_mul]
  · intro h; exact absurd (Finset.mem_univ _) h

/-- A column of it sums over the group. -/
theorem pick_total (g : Fin 8) (y : Fin 192 → Fin 3136 → ℝ) :
    ∑ c, pick c g * ∑ p, (y c p : EReal) = (total y g : EReal) := by
  unfold total
  rw [coe_sum]
  refine Finset.sum_congr rfl fun c _ => ?_
  unfold pick
  split
  · rw [one_mul, coe_sum]
  · rw [zero_mul, EReal.coe_zero]

theorem select_take (i : Fin 8) (f : Fin 8 → EReal) :
    ∑ e : Fin 8, Scalar.select (IntOp.cmpi CmpIPredicate.eq (BitVec.ofNat 32 e.val) (BitVec.ofNat 32 i.val)) (f e) 0 = f i := by
  simp only [select_place]
  rw [Finset.sum_ite_eq' Finset.univ i f, if_pos (Finset.mem_univ _)]

theorem root_eq (y : Fin 192 → Fin 3136 → ℝ) (g : Fin 8) :
    Ideal.rsqrt (Ideal.div (total (fun c p => y c p * y c p) g : EReal) (Ideal.ofBits FTy.f32 1200816128#32)
        - (gmean y g : EReal) * (gmean y g : EReal) + Ideal.ofBits FTy.f32 925353388#32)
      = (((Real.sqrt (gvar y g + tiny))⁻¹ : ℝ) : EReal) := by
  rw [word_count, word_tiny, div_real _ _ (by norm_num), ← EReal.coe_mul, ← EReal.coe_sub, ← EReal.coe_add]
  exact rsqrt_real _ (gvar_tiny y g)

theorem pick_squares (g : Fin 8) (y : Fin 192 → Fin 3136 → ℝ) :
    ∑ c, pick c g * ∑ p, (y c p : EReal) * (y c p : EReal) = (total (fun c p => y c p * y c p) g : EReal) := by
  simp only [← EReal.coe_mul]
  exact pick_total g fun c p => y c p * y c p

theorem pick_mean (g : Fin 8) (y : Fin 192 → Fin 3136 → ℝ) :
    Ideal.div (∑ c, pick c g * ∑ p, (y c p : EReal)) (Ideal.ofBits FTy.f32 1200816128#32) = (gmean y g : EReal) := by
  rw [pick_total, word_count, div_real _ _ (by norm_num)]
  rfl

section
variable (u : Vec Ideal S192x216 .bf16) (v : Vec Ideal S216x3136 .bf16) (acc : FVec Ideal S192x3136 .f32)
  (nw nb : Vec Ideal S192x8 .f32) (w : EReal) (i : Fin 8) (a : Fin 192 → ℝ) (ha : ∀ o, nw (ix2 o i) = (a o : EReal))

section
variable (y : Fin 192 → Fin 3136 → ℝ) (hy : ∀ o p, k0_pay34 u v (ix2 o p) = (y o p : EReal))
include hy
theorem pay35_eq (g : Fin 8) : k0_pay35 (F := Ideal) k0_pay17 u v (ix2 g 0) = (gmean y g : EReal) := by
  rw [pick_rows]
  unfold k0_pay35
  pointwise
  simp only [hy]
  rw [pick_total, word_count, div_real _ _ (by norm_num)]
  rfl

theorem pay36_eq (g : Fin 8) : k0_pay36 (F := Ideal) k0_pay17 u v (ix2 g 0) = (total (fun c p => y c p * y c p) g : EReal) := by
  rw [pick_rows]
  unfold k0_pay36
  pointwise
  simp only [hy, ← EReal.coe_mul]
  exact pick_total g fun c p => y c p * y c p

include ha
theorem pay37_eq (o : Fin 192) (p : Fin 3136) :
    k0_pay37 (F := Ideal) bodyRun.sl.v49 (BitVec.ofNat 32 i.val) w bodyRun.sl.r_5 acc (k0_pay34 u v) (k0_pay35 k0_pay17 u v)
      (k0_pay36 k0_pay17 u v) nw nb (ix2 o p)
    = acc (ix2 o p) + w * silu (normed y a (fun c => nb (ix2 c i)) o p) := by
  have h1 : k0_pay35 (F := Ideal) k0_pay17 u v = fun j : S8x1.Idx => (gmean y (j 0) : EReal) := by
    funext j; rw [col_eq j]; exact pay35_eq u v y hy (j 0)
  have h2 : k0_pay36 (F := Ideal) k0_pay17 u v = fun j : S8x1.Idx => (total (fun c p => y c p * y c p) (j 0) : EReal) := by
    funext j; rw [col_eq j]; exact pay36_eq u v y hy (j 0)
  rw [h1, h2, pick_cols]
  unfold k0_pay37 bodyRun.sl.v49
  pointwise
  simp only [select_take i fun e => nw (ix2 o e), select_take i fun e => nb (ix2 o e), hy, root_eq, pick_take, ha, folded]
  rfl
end

section
variable (y : Fin 192 → Fin 3136 → ℝ) (hy : ∀ o p, k0_pay50 u v (ix2 o p) = (y o p : EReal))
include hy ha
theorem pay52_eq (o : Fin 192) (p : Fin 3136) :
    k0_pay52 (F := Ideal) bodyRun.sl.v49 (BitVec.ofNat 32 i.val) w k0_pay17 bodyRun.sl.r_5 acc (k0_pay50 u v) (k0_pay51 u v)
      nw nb (ix2 o p)
    = acc (ix2 o p) + w * silu (normed y a (fun c => nb (ix2 c i)) o p) := by
  have h1 : k0_pay51 (F := Ideal) u v = fun j : S192.Idx => ∑ q, (y (j 0) q : EReal) := by
    funext j
    obtain ⟨c, rfl⟩ : ∃ c : Fin 192, j = ix1 c := ⟨j 0, by funext a; fin_cases a; rfl⟩
    unfold k0_pay51
    pointwise
    simp only [hy]
  have h2 : k0_pay50 (F := Ideal) u v = fun j : S192x3136.Idx => (y (j 0) (j 1) : EReal) := by
    funext j
    obtain ⟨c, q, rfl⟩ : ∃ (c : Fin 192) (q : Fin 3136), j = ix2 c q := ⟨j 0, j 1, by funext a; fin_cases a <;> rfl⟩
    exact hy c q
  rw [h1, h2, pick_rows, pick_cols]
  unfold k0_pay52 bodyRun.sl.v49
  pointwise
  simp only [pick_mean, pick_squares, select_take i fun e => nw (ix2 o e), select_take i fun e => nb (ix2 o e), root_eq,
    pick_take, ha, folded]
  rfl
end
end
end Cert.Moe

end
-- ==== Proof.KConv.lean ====
/-
  The kernel's convolution: a group of channels read out of the block, written between zeros into a wider row, read
  back at nine offsets, masked at the image's edges and gathered as the columns of one product.
-/
module

public import proofs.«01_k».proof.Proof.KNorm
public import Idealize.ShloMosaic.Lib.WholeRead
public import Idealize.ShloMosaic.Lib.Pipeline.ReadBack

@[expose] public section

set_option maxRecDepth 16384

noncomputable section

namespace Cert.Moe

open Cert.KernelIdeal Cert.KernelIdeal.Gen
open Idealize.ShloMosaic Idealize.ShloMosaic.TcCoe Idealize.ShloMosaic.Tactic
open scoped BigOperators

theorem off1_eq : ∀ e : Fin 8, k0_off1 (BitVec.ofNat 32 e.val) = ![0, e.val * 24, 0] := by decide
theorem off2_eq : ∀ e : Fin 8, k0_off2 (BitVec.ofNat 32 e.val) = ![e.val * 192, 0] := by decide
theorem off3_eq : ∀ e : Fin 8, k0_off3 (BitVec.ofNat 32 e.val) = ![0, e.val * 24, 0] := by decide
theorem off4_eq : ∀ e : Fin 8, k0_off4 (BitVec.ofNat 32 e.val) = ![e.val * 192, 0] := by decide

section
variable (A1 : Memref sig .tc .vmem S1x192x3136 .f32) (h1 : A1.IsWhole) (A3 : Memref sig .tc .vmem S1536x216 .bf16) (h3 : A3.IsWhole)
  (x : Vec Ideal S1x192x3136 .f32) (wt : Vec Ideal S1536x216 .bf16) (e : Fin 8)

theorem read_group (off : Fin 3 → Nat) (ho : off = ![0, e.val * 24, 0]) (hb : ∀ a, off a + S1x24x3136.size a ≤ S1x192x3136.size a)
    (r : Fin 24) (p : Fin 3136) :
    View.readAt (Elt Ideal) A1.view (Rect.unit (s := S1x192x3136) off S1x24x3136.size hb).toLoadRect (h1.unread x) (ix3 0 r p) = x (ix3 0 (chan e r) p) := by
  subst ho
  rw [h1.readAt_unread]
  congr 1
  funext a
  fin_cases a <;> refine Fin.ext ?_
  · rfl
  · show e.val * 24 + 1 * r.val = _; simp [cell]
  · show 0 + 1 * p.val = _; simp

theorem read_weights (off : Fin 2 → Nat) (ho : off = ![e.val * 192, 0]) (hb : ∀ a, off a + S192x216.size a ≤ S1536x216.size a)
    (o : Fin 192) (k : Fin 216) :
    View.readAt (Elt Ideal) A3.view (Rect.unit (s := S1536x216) off S192x216.size hb).toLoadRect (h3.unread wt) (ix2 o k) = wt (ix2 (wrow e o) k) := by
  subst ho
  rw [h3.readAt_unread]
  congr 1
  funext a
  fin_cases a <;> refine Fin.ext ?_
  · show e.val * 192 + 1 * o.val = _; simp [cell]
  · show 0 + 1 * k.val = _; simp
end

/-! ## The padded rows -/

/-- A row of pixels with 57 zeros on either side. -/
def padded (f : Fin 3136 → EReal) (q : Nat) : EReal := if h : 57 ≤ q ∧ q - 57 < 3136 then f ⟨q - 57, h.2⟩ else 0

theorem canon_padded (u : FVec Ideal S24x3136 .f32) (z : FVec Ideal S24x3250 .f32) (hz : ∀ j, z j = 0) (L : List (View.Piece (Elt Ideal) S24x3250 .f32))
    (r : Fin 24) (q : Fin 3250) :
    View.canon (Val := Elt Ideal) (s := S24x3250) (e := .f32)
      (⟨Rect.unit (s := S24x3250) ![0, 57] S24x3136.size inb_S24x3250_S24x3136_0_57, u⟩ ::
       ⟨Rect.unit (s := S24x3250) ![0, 0] S24x3250.size inb_S24x3250_S24x3250_0_0, z⟩ :: L) (ix2 r q) = padded (fun p => u (ix2 r p)) q.val := by
  unfold padded
  split
  · rename_i h
    have he : (ix2 r q : S24x3250.Idx) = (Rect.unit (s := S24x3250) ![0, 57] S24x3136.size inb_S24x3250_S24x3136_0_57).emb (ix2 r ⟨q.val - 57, h.2⟩) := by
      funext a
      fin_cases a <;> refine Fin.ext ?_
      · show r.val = 0 + 1 * r.val; omega
      · show q.val = 57 + 1 * (q.val - 57); omega
    rw [he]
    exact View.canon_cons_emb _ _ _ _
  · rename_i h
    rw [View.canon_cons_of_not_mem, View.canon_cons_unit_lit]
    · exact hz _
    · intro a; fin_cases a <;> rfl
    · intro hm
      rw [Rect.mem_set_unit] at hm
      have := hm 1
      simp at this
      have := q.isLt
      omega

theorem read_padded (A7 : Memref sig .tc .vmem S24x3250 .f32) (u : FVec Ideal S24x3136 .f32) (z : FVec Ideal S24x3250 .f32)
    (hz : ∀ j, z j = 0) (L : List (View.Piece (Elt Ideal) S24x3250 .f32)) (s : Nat) (hs : ∀ a, (![0, s] : Fin 2 → Nat) a + S24x3136.size a ≤ S24x3250.size a) (r : Fin 24) (p : Fin 3136) :
    A7.view.readCov (Val := Elt Ideal)
      (⟨Rect.unit (s := S24x3250) ![0, 57] S24x3136.size inb_S24x3250_S24x3136_0_57, u⟩ ::
       ⟨Rect.unit (s := S24x3250) ![0, 0] S24x3250.size inb_S24x3250_S24x3250_0_0, z⟩ :: L) (Rect.unit (s := S24x3250) ![0, s] S24x3136.size hs).toLoadRect (ix2 r p)
      = padded (fun p => u (ix2 r p)) (p.val + s) := by
  have hs1 : s + 3136 ≤ 3250 := hs 1
  have hq : p.val + s < 3250 := by have := p.isLt; omega
  rw [View.readCov_eq_canon']
  refine Eq.trans (congrArg (View.canon _) ?_) (canon_padded u z hz L r ⟨p.val + s, hq⟩)
  funext a
  fin_cases a <;> refine Fin.ext ?_
  · show 0 + 1 * r.val = r.val; omega
  · show s + 1 * p.val = p.val + s; omega

/-! ## The masks -/

theorem left_bit : ∀ p : Fin 3136, IntOp.cmpi CmpIPredicate.sgt (IntOp.remsi ArithUnit.vector (BitVec.ofNat 32 p.val) 56#32) 0#32
    = if 1 ≤ p.val % 56 then 1#1 else 0#1 := by decide +kernel
theorem right_bit : ∀ p : Fin 3136, IntOp.cmpi CmpIPredicate.slt (IntOp.remsi ArithUnit.vector (BitVec.ofNat 32 p.val) 56#32) 55#32
    = if p.val % 56 < 55 then 1#1 else 0#1 := by decide +kernel

theorem left_mask (p : Fin 3136) : bodyRun.sl.r_4 (F := Ideal) (ix2 0 p) = if 1 ≤ p.val % 56 then 1 else 0 := by
  unfold bodyRun.sl.r_4 k0_pay14 k0_pay13 k0_pay15 bodyRun.sl.cst_23
  pointwise
  rw [left_bit]
  split <;> rfl
theorem right_mask (p : Fin 3136) : k0_pay16 (F := Ideal) k0_pay13 (ix2 0 p) = if p.val % 56 < 55 then 1 else 0 := by
  unfold k0_pay13 k0_pay16
  pointwise
  rw [right_bit]
  split <;> rfl

theorem pay34_apply (u : Vec Ideal S192x216 .bf16) (v : Vec Ideal S216x3136 .bf16) (o : Fin 192) (p : Fin 3136) :
   k0_pay34 (F := Ideal) u v (ix2 o p) = ∑ k : Fin 216, u (ix2 o k) * v (ix2 k p) := by
  unfold k0_pay34; pointwise
theorem pay50_apply (u : Vec Ideal S192x216 .bf16) (v : Vec Ideal S216x3136 .bf16) (o : Fin 192) (p : Fin 3136) :
   k0_pay50 (F := Ideal) u v (ix2 o p) = ∑ k : Fin 216, u (ix2 o k) * v (ix2 k p) := by
  unfold k0_pay50; pointwise

/-! ## One tap -/

theorem padded_tap (g : Fin 3136 → ℝ) (t : Fin 9) (p : Fin 3136) :
    (if (t.val % 3 = 0 → 1 ≤ p.val % 56) ∧ (t.val % 3 = 2 → p.val % 56 < 55) then
      padded (fun q => (g q : EReal)) (p.val + (t.val / 3 * 56 + t.val % 3)) else 0) = (tap g t.val p.val : EReal) := by
  have hp := p.isLt
  have ht := t.isLt
  unfold padded tap
  by_cases h : tapIn t.val p.val
  · obtain ⟨h1, h2, h3, h4⟩ := id h
    rw [if_pos (by constructor <;> intro _ <;> omega), dif_pos h, dif_pos (by constructor <;> omega)]
    congr 3
    omega
  · rw [dif_neg h, EReal.coe_zero]
    split
    · rename_i hm
      rw [dif_neg]
      rintro ⟨ha, hb⟩
      apply h
      unfold tapIn
      omega
    · rfl

/-! ## The nine taps, one below the other -/

/-- The nine pieces as the kernel stores them, the last first. -/
def pieces (u : Fin 9 → FVec Ideal S24x3136 .bf16) : List (View.Piece (Elt Ideal) S216x3136 .bf16) :=
      [⟨Rect.unit (s := S216x3136) ![192, 0] S24x3136.size inb_S216x3136_S24x3136_192_0, u 8⟩,
       ⟨Rect.unit (s := S216x3136) ![168, 0] S24x3136.size inb_S216x3136_S24x3136_168_0, u 7⟩,
       ⟨Rect.unit (s := S216x3136) ![144, 0] S24x3136.size inb_S216x3136_S24x3136_144_0, u 6⟩,
       ⟨Rect.unit (s := S216x3136) ![120, 0] S24x3136.size inb_S216x3136_S24x3136_120_0, u 5⟩,
       ⟨Rect.unit (s := S216x3136) ![96, 0] S24x3136.size inb_S216x3136_S24x3136_96_0, u 4⟩,
       ⟨Rect.unit (s := S216x3136) ![72, 0] S24x3136.size inb_S216x3136_S24x3136_72_0, u 3⟩,
       ⟨Rect.unit (s := S216x3136) ![48, 0] S24x3136.size inb_S216x3136_S24x3136_48_0, u 2⟩,
       ⟨Rect.unit (s := S216x3136) ![24, 0] S24x3136.size inb_S216x3136_S24x3136_24_0, u 1⟩,
       ⟨Rect.unit (s := S216x3136) ![0, 0] S24x3136.size inb_S216x3136_S24x3136_0_0, u 0⟩]

theorem canon_pieces (u : Fin 9 → FVec Ideal S24x3136 .bf16) (L : List (View.Piece (Elt Ideal) S216x3136 .bf16))
    (t : Fin 9) (r : Fin 24) (p : Fin 3136) :
    View.canon (pieces u ++ L) (ix2 (wcol t r) p) = u t (ix2 r p) := by
  have key := View.canon_append_of_piecesOf (Val := Elt Ideal) (s := S216x3136) (e := .bf16)
    (fun j : S216x3136.Idx => u ⟨(j 0).val / 24, Nat.div_lt_of_lt_mul (j 0).isLt⟩ (ix2 ⟨(j 0).val % 24, Nat.mod_lt _ (by norm_num)⟩ (j 1)))
    L (pieces u) ?_ (ix2 (wcol t r) p) ?_
  · rw [key]
    have h1 : (⟨(wcol t r).val / 24, Nat.div_lt_of_lt_mul (wcol t r).isLt⟩ : Fin 9) = t := by
      refine Fin.ext ?_; have := r.isLt; simp only [cell]; omega
    have h2 : (⟨(wcol t r).val % 24, Nat.mod_lt _ (by norm_num)⟩ : Fin 24) = r := by
      refine Fin.ext ?_; have := r.isLt; simp only [cell]; omega
    show u ⟨(wcol t r).val / 24, _⟩ (ix2 ⟨(wcol t r).val % 24, _⟩ p) = _
    rw [h1, h2]
  · have hp : ∀ (s : Fin 9) (hb : ∀ a, (![24 * s.val, 0] : Fin 2 → Nat) a + S24x3136.size a ≤ S216x3136.size a) (x : S24x3136.Idx),
        u s x = (fun j : S216x3136.Idx => u ⟨(j 0).val / 24, Nat.div_lt_of_lt_mul (j 0).isLt⟩ (ix2 ⟨(j 0).val % 24, Nat.mod_lt _ (by norm_num)⟩ (j 1)))
          ((Rect.unit (s := S216x3136) ![24 * s.val, 0] S24x3136.size hb).emb x) := by
      intro s hb x
      have hx : (x 0).val < 24 := (x 0).isLt
      have h0 : ((Rect.unit (s := S216x3136) ![24 * s.val, 0] S24x3136.size hb).emb x 0).val = 24 * s.val + 1 * (x 0).val := rfl
      have h1 : ((Rect.unit (s := S216x3136) ![24 * s.val, 0] S24x3136.size hb).emb x 1).val = 0 + 1 * (x 1).val := rfl
      show _ = u ⟨_, _⟩ (ix2 ⟨_, _⟩ _)
      congr 1
      · refine Fin.ext ?_; show s.val = _ / 24; omega
      · funext a
        fin_cases a <;> refine Fin.ext ?_
        · show (x 0).val = _ % 24; omega
        · show (x 1).val = ((Rect.unit (s := S216x3136) ![24 * s.val, 0] S24x3136.size hb).emb x 1).val; omega
    exact ⟨hp 8 inb_S216x3136_S24x3136_192_0, hp 7 inb_S216x3136_S24x3136_168_0, hp 6 inb_S216x3136_S24x3136_144_0, hp 5 inb_S216x3136_S24x3136_120_0, hp 4 inb_S216x3136_S24x3136_96_0, hp 3 inb_S216x3136_S24x3136_72_0, hp 2 inb_S216x3136_S24x3136_48_0, hp 1 inb_S216x3136_S24x3136_24_0, hp 0 inb_S216x3136_S24x3136_0_0, trivial⟩
  · have hm : ∀ (s : Fin 9) (hb : ∀ a, (![24 * s.val, 0] : Fin 2 → Nat) a + S24x3136.size a ≤ S216x3136.size a),
        (ix2 (wcol s r) p : S216x3136.Idx) ∈ (Rect.unit (s := S216x3136) ![24 * s.val, 0] S24x3136.size hb).set := by
      intro s hb
      rw [Rect.mem_set_unit]
      intro a
      have := r.isLt
      fin_cases a
      · show 24 * s.val ≤ s.val * 24 + r.val ∧ s.val * 24 + r.val < 24 * s.val + 24; omega
      · show 0 ≤ p.val ∧ p.val < 0 + 3136; have := p.isLt; omega
    match t with
    | 0 => exact ⟨⟨_, u 0⟩, by unfold pieces; repeat (first | exact List.mem_cons_self | apply List.mem_cons_of_mem), hm 0 inb_S216x3136_S24x3136_0_0⟩
    | 1 => exact ⟨⟨_, u 1⟩, by unfold pieces; repeat (first | exact List.mem_cons_self | apply List.mem_cons_of_mem), hm 1 inb_S216x3136_S24x3136_24_0⟩
    | 2 => exact ⟨⟨_, u 2⟩, by unfold pieces; repeat (first | exact List.mem_cons_self | apply List.mem_cons_of_mem), hm 2 inb_S216x3136_S24x3136_48_0⟩
    | 3 => exact ⟨⟨_, u 3⟩, by unfold pieces; repeat (first | exact List.mem_cons_self | apply List.mem_cons_of_mem), hm 3 inb_S216x3136_S24x3136_72_0⟩
    | 4 => exact ⟨⟨_, u 4⟩, by unfold pieces; repeat (first | exact List.mem_cons_self | apply List.mem_cons_of_mem), hm 4 inb_S216x3136_S24x3136_96_0⟩
    | 5 => exact ⟨⟨_, u 5⟩, by unfold pieces; repeat (first | exact List.mem_cons_self | apply List.mem_cons_of_mem), hm 5 inb_S216x3136_S24x3136_120_0⟩
    | 6 => exact ⟨⟨_, u 6⟩, by unfold pieces; repeat (first | exact List.mem_cons_self | apply List.mem_cons_of_mem), hm 6 inb_S216x3136_S24x3136_144_0⟩
    | 7 => exact ⟨⟨_, u 7⟩, by unfold pieces; repeat (first | exact List.mem_cons_self | apply List.mem_cons_of_mem), hm 7 inb_S216x3136_S24x3136_168_0⟩
    | 8 => exact ⟨⟨_, u 8⟩, by unfold pieces; repeat (first | exact List.mem_cons_self | apply List.mem_cons_of_mem), hm 8 inb_S216x3136_S24x3136_192_0⟩

/-- The pieces once each is a padded row read at its offset and masked. -/
def Taps (u : Fin 9 → FVec Ideal S24x3136 .bf16) (f : Fin 24 → Fin 3136 → EReal) : Prop :=
  ∀ (t : Fin 9) (r : Fin 24) (p : Fin 3136), u t (ix2 r p) =
    if (t.val % 3 = 0 → 1 ≤ p.val % 56) ∧ (t.val % 3 = 2 → p.val % 56 < 55) then padded (f r) (p.val + (t.val / 3 * 56 + t.val % 3)) else 0

theorem conv_eq (x : Fin 192 → Fin 3136 → ℝ) (w : Fin 1536 → Fin 216 → ℝ) (e : Fin 8)
    (u : Fin 9 → FVec Ideal S24x3136 .bf16) (f : Fin 24 → Fin 3136 → EReal) (hu : Taps u f)
    (hf : ∀ r p, f r p = (x (chan e r) p : EReal)) (wt : Fin 192 → Fin 216 → EReal) (hw : ∀ o k, wt o k = (w (wrow e o) k : EReal))
    (L : List (View.Piece (Elt Ideal) S216x3136 .bf16)) (v : FVec Ideal S216x3136 .bf16) (hv : v = View.canon (pieces u ++ L))
    (o : Fin 192) (p : Fin 3136) : ∑ k : Fin 216, wt o k * v (ix2 k p) = (conv x w e o p : EReal) := by
  subst hv
  unfold conv
  rw [← sum_cells (by rfl : 9 * 24 = 216), coe_sum]
  refine Finset.sum_congr rfl fun t _ => ?_
  rw [coe_sum]
  refine Finset.sum_congr rfl fun r _ => ?_
  rw [canon_pieces, hu, hw, EReal.coe_mul, ← padded_tap]
  simp only [funext (hf r)]

/-! ## The pieces the kernel stores -/

theorem row_inb : ∀ (t : Fin 9) (a : Fin 2), (![0, t.val / 3 * 56 + t.val % 3] : Fin 2 → Nat) a + S24x3136.size a ≤ S24x3250.size a := by
  decide

/-- The padded rows read back at the nine offsets. -/
def rows (A7 : Memref sig .tc .vmem S24x3250 .f32) (u : FVec Ideal S24x3136 .f32) (z : FVec Ideal S24x3250 .f32)
    (L : List (View.Piece (Elt Ideal) S24x3250 .f32)) (t : Fin 9) : Vec Ideal S24x3136 .f32 :=
  A7.view.readCov (Val := Elt Ideal)
    (⟨Rect.unit (s := S24x3250) ![0, 57] S24x3136.size inb_S24x3250_S24x3136_0_57, u⟩ ::
     ⟨Rect.unit (s := S24x3250) ![0, 0] S24x3250.size inb_S24x3250_S24x3250_0_0, z⟩ :: L)
    (Rect.unit (s := S24x3250) ![0, t.val / 3 * 56 + t.val % 3] S24x3136.size (row_inb t)).toLoadRect

/-- The rows masked at the image's left and right edges. -/
def cols (v : Fin 9 → Vec Ideal S24x3136 .f32) : Fin 9 → FVec Ideal S24x3136 .bf16 :=
  ![k0_pay28 bodyRun.sl.r_4 (v 0), k0_pay26 (v 1), k0_pay27 (k0_pay16 k0_pay13) (v 2),
    k0_pay28 bodyRun.sl.r_4 (v 3), k0_pay26 (v 4), k0_pay27 (k0_pay16 k0_pay13) (v 5),
    k0_pay28 bodyRun.sl.r_4 (v 6), k0_pay26 (v 7), k0_pay27 (k0_pay16 k0_pay13) (v 8)]

theorem left_col (v : Vec Ideal S24x3136 .f32) (r : Fin 24) (p : Fin 3136) :
    k0_pay28 bodyRun.sl.r_4 v (ix2 r p) = if 1 ≤ p.val % 56 then v (ix2 r p) else 0 := by
  have h : k0_pay28 bodyRun.sl.r_4 v (ix2 r p) = v (ix2 r p) * bodyRun.sl.r_4 (F := Ideal) (ix2 0 p) := by
    unfold k0_pay28; pointwise
  rw [h, left_mask]
  split
  · exact mul_one _
  · exact mul_zero _

theorem mid_col (v : Vec Ideal S24x3136 .f32) (r : Fin 24) (p : Fin 3136) : k0_pay26 v (ix2 r p) = v (ix2 r p) := by
  unfold k0_pay26; pointwise

theorem right_col (v : Vec Ideal S24x3136 .f32) (r : Fin 24) (p : Fin 3136) :
    k0_pay27 (k0_pay16 k0_pay13) v (ix2 r p) = if p.val % 56 < 55 then v (ix2 r p) else 0 := by
  have h : k0_pay27 (k0_pay16 k0_pay13) v (ix2 r p) = v (ix2 r p) * k0_pay16 (F := Ideal) k0_pay13 (ix2 0 p) := by
    unfold k0_pay27; pointwise
  rw [h, right_mask]
  split
  · exact mul_one _
  · exact mul_zero _

theorem taps_cols (A7 : Memref sig .tc .vmem S24x3250 .f32) (u : FVec Ideal S24x3136 .f32) (z : FVec Ideal S24x3250 .f32)
    (hz : ∀ j, z j = 0) (L : List (View.Piece (Elt Ideal) S24x3250 .f32)) :
    Taps (cols (rows A7 u z L)) (fun r p => u (ix2 r p)) := by
  have hr : ∀ (t : Fin 9) (r : Fin 24) (p : Fin 3136), rows A7 u z L t (ix2 r p)
      = padded (fun p => u (ix2 r p)) (p.val + (t.val / 3 * 56 + t.val % 3)) :=
    fun t r p => read_padded A7 u z hz L _ (row_inb t) r p
  have hl : ∀ t : Fin 9, t.val % 3 = 0 → ∀ r p, k0_pay28 bodyRun.sl.r_4 (rows A7 u z L t) (ix2 r p) =
      (if (t.val % 3 = 0 → 1 ≤ p.val % 56) ∧ (t.val % 3 = 2 → p.val % 56 < 55) then padded (fun p => u (ix2 r p)) (p.val + (t.val / 3 * 56 + t.val % 3)) else 0) := fun t ht r p =>
    (left_col _ r p).trans (by
      rw [hr]
      exact (if_congr (show ((t.val % 3 = 0 → 1 ≤ p.val % 56) ∧ (t.val % 3 = 2 → p.val % 56 < 55)) ↔ 1 ≤ p.val % 56 by omega) rfl rfl).symm)
  have hm : ∀ t : Fin 9, t.val % 3 = 1 → ∀ r p, k0_pay26 (rows A7 u z L t) (ix2 r p) =
      (if (t.val % 3 = 0 → 1 ≤ p.val % 56) ∧ (t.val % 3 = 2 → p.val % 56 < 55) then padded (fun p => u (ix2 r p)) (p.val + (t.val / 3 * 56 + t.val % 3)) else 0) := fun t ht r p =>
    (mid_col _ r p).trans (by
      rw [hr]
      exact (if_pos (show ((t.val % 3 = 0 → 1 ≤ p.val % 56) ∧ (t.val % 3 = 2 → p.val % 56 < 55)) by omega)).symm)
  have hq : ∀ t : Fin 9, t.val % 3 = 2 → ∀ r p, k0_pay27 (k0_pay16 k0_pay13) (rows A7 u z L t) (ix2 r p) =
      (if (t.val % 3 = 0 → 1 ≤ p.val % 56) ∧ (t.val % 3 = 2 → p.val % 56 < 55) then padded (fun p => u (ix2 r p)) (p.val + (t.val / 3 * 56 + t.val % 3)) else 0) := fun t ht r p =>
    (right_col _ r p).trans (by
      rw [hr]
      exact (if_congr (show ((t.val % 3 = 0 → 1 ≤ p.val % 56) ∧ (t.val % 3 = 2 → p.val % 56 < 55)) ↔ p.val % 56 < 55 by omega) rfl rfl).symm)
  intro t r p
  match t with
  | 0 => exact hl 0 rfl r p
  | 1 => exact hm 1 rfl r p
  | 2 => exact hq 2 rfl r p
  | 3 => exact hl 3 rfl r p
  | 4 => exact hm 4 rfl r p
  | 5 => exact hq 5 rfl r p
  | 6 => exact hl 6 rfl r p
  | 7 => exact hm 7 rfl r p
  | 8 => exact hq 8 rfl r p

/-! ## The two products -/

section
variable (H : Chosen Ideal) (c : Dev nD)
    (A1 : Memref sig .tc .vmem S1x192x3136 .f32) (h1 : A1.IsWhole) (A2 : Memref sig .tc .vmem S8x384 .f32) (h2 : A2.IsWhole)
    (A3 : Memref sig .tc .vmem S1536x216 .bf16) (h3 : A3.IsWhole) (A4 : Memref sig .tc .vmem S192x8 .f32) (h4 : A4.IsWhole)
    (A5 : Memref sig .tc .vmem S192x8 .f32) (h5 : A5.IsWhole)
    (A7 : Memref sig .tc .vmem S24x3250 .f32) (A8 : Memref sig .tc .vmem S216x3136 .bf16)
    (x0 : Vec Ideal S1x192x3136 .f32) (x1 : Vec Ideal S8x384 .f32) (x2 : Vec Ideal S1536x216 .bf16) (x3 : Vec Ideal S192x8 .f32) (x4 : Vec Ideal S192x8 .f32)

theorem first_pieces : bodyRun.sl.H7_9 H c A1 h1 A2 h2 A7 x0 x1
    = pieces (cols (rows A7 (k0_pay23 (bodyRun.sl.v162 H c A1 h1 A2 h2 x0 x1)) k0_pay22 [])) ++ [] := by rfl

theorem second_pieces : bodyRun.sl.H7_18 H c A1 h1 A2 h2 A7 x0 x1
    = pieces (cols (rows A7 (k0_pay40 (bodyRun.sl.r_12 H c A1 h1 A2 h2 x0 x1)) k0_pay38 (bodyRun.sl.H6_2 H c A1 h1 A2 h2 x0 x1)))
      ++ bodyRun.sl.H7_9 H c A1 h1 A2 h2 A7 x0 x1 := by rfl

variable (xr : Fin 192 → Fin 3136 → ℝ) (hx : ∀ c p, x0 (ix3 0 c p) = (xr c p : EReal))
  (wr : Fin 1536 → Fin 216 → ℝ) (hw : ∀ r k, x2 (ix2 r k) = (wr r k : EReal)) (e : Fin 8)

theorem whole_read (v : Vec Ideal S216x3136 .bf16) (L : List (View.Piece (Elt Ideal) S216x3136 .bf16))
    (hv : v = A8.view.readCov L (Rect.unit (s := S216x3136) ![0, 0] S216x3136.size inb_S216x3136_S216x3136_0_0).toLoadRect) :
    v = View.canon L := by
  subst hv
  rw [View.readCov_eq_canon']
  funext j
  refine congrArg _ ?_
  funext a
  fin_cases a <;> refine Fin.ext ?_
  · show 0 + 1 * (j 0).val = (j 0).val; omega
  · show 0 + 1 * (j 1).val = (j 1).val; omega

include hx hw
theorem first_product (he : bodyRun.sl.v61 c A1 h1 A2 h2 x0 x1 = BitVec.ofNat 32 e.val) (o : Fin 192) (p : Fin 3136) :
    bodyRun.sl.r_8 H c A1 h1 A2 h2 A3 h3 A7 A8 x0 x1 x2 (ix2 o p) = (conv xr wr e o p : EReal) := by
  unfold bodyRun.sl.r_8
  rw [pay34_apply]
  refine conv_eq xr wr e _ _ (taps_cols A7 (k0_pay23 (bodyRun.sl.v162 H c A1 h1 A2 h2 x0 x1)) k0_pay22 ?_ []) ?_
    (fun o k => bodyRun.sl.v226 H c A1 h1 A2 h2 A3 h3 x0 x1 x2 (ix2 o k)) ?_ [] _ ?_ o p
  · intro j
    obtain ⟨r, q, rfl⟩ : ∃ (r : Fin 24) (q : Fin 3250), j = ix2 r q := ⟨j 0, j 1, by funext a; fin_cases a <;> rfl⟩
    unfold k0_pay22; pointwise
  · intro r q
    unfold k0_pay23
    pointwise
    rw [← hx]
    exact read_group A1 h1 x0 e _ (by rw [he]; exact off1_eq e) _ r q
  · intro o k
    rw [← hw]
    exact read_weights A3 h3 x2 e _ (by rw [he]; exact off2_eq e) _ o k
  · exact whole_read A8 _ _ (congrArg (fun L => A8.view.readCov L _) (first_pieces H c A1 h1 A2 h2 A7 x0 x1))

theorem second_product (he : bodyRun.sl.v77 c A1 h1 A2 h2 x0 x1 = BitVec.ofNat 32 e.val) (o : Fin 192) (p : Fin 3136) :
    bodyRun.sl.r_14 H c A1 h1 A2 h2 A3 h3 A7 A8 x0 x1 x2 (ix2 o p) = (conv xr wr e o p : EReal) := by
  unfold bodyRun.sl.r_14
  rw [pay50_apply]
  refine conv_eq xr wr e _ _ (taps_cols A7 (k0_pay40 (bodyRun.sl.r_12 H c A1 h1 A2 h2 x0 x1)) k0_pay38 ?_ (bodyRun.sl.H6_2 H c A1 h1 A2 h2 x0 x1)) ?_
    (fun o k => bodyRun.sl.v341 H c A1 h1 A2 h2 A3 h3 x0 x1 x2 (ix2 o k)) ?_ (bodyRun.sl.H7_9 H c A1 h1 A2 h2 A7 x0 x1) _ ?_ o p
  · intro j
    obtain ⟨r, q, rfl⟩ : ∃ (r : Fin 24) (q : Fin 3250), j = ix2 r q := ⟨j 0, j 1, by funext a; fin_cases a <;> rfl⟩
    unfold k0_pay38; pointwise
  · intro r q
    unfold bodyRun.sl.r_12 k0_pay40 k0_pay39
    pointwise
    rw [← hx]
    exact read_group A1 h1 x0 e _ (by rw [he]; exact off3_eq e) _ r q
  · intro o k
    rw [← hw]
    exact read_weights A3 h3 x2 e _ (by rw [he]; exact off4_eq e) _ o k
  · exact whole_read A8 _ _ (congrArg (fun L => A8.view.readCov L _) (second_pieces H c A1 h1 A2 h2 A7 x0 x1))
end

end Cert.Moe

end
-- ==== Proof.KBlock.lean ====
/-
  What the kernel's body leaves in the result's block: one image's mixture of its two experts.
-/
module

public import proofs.«01_k».proof.Proof.KConv

@[expose] public section

set_option maxRecDepth 16384

noncomputable section

namespace Cert.Moe

open Cert.KernelIdeal Cert.KernelIdeal.Gen
open Idealize.ShloMosaic Idealize.ShloMosaic.TcCoe Idealize.ShloMosaic.Tactic
open scoped BigOperators

/-- A load of a whole array reads the array. -/
theorem read_whole {s : Shape} {e : EltTy} (A : Memref sig .tc .vmem s e) (h : A.IsWhole) (x : Vec Ideal s e)
    (off : Fin s.rank → Nat) (ho : ∀ a, off a = 0) (hb : ∀ a, off a + s.size a ≤ s.size a) :
    View.readAt (Elt Ideal) A.view (Rect.unit (s := s) off s.size hb).toLoadRect (h.unread x) = x := by
  funext j
  rw [h.readAt_unread]
  refine congrArg x ?_
  funext a
  refine Fin.ext ?_
  show off a + 1 * (j a).val = (j a).val
  rw [ho]; omega

section
variable (H : Chosen Ideal) (c : Dev nD) (i : grid0.Coords)
    (A1 : Memref sig .tc .vmem S1x192x3136 .f32) (h1 : A1.IsWhole) (A2 : Memref sig .tc .vmem S8x384 .f32) (h2 : A2.IsWhole)
    (A3 : Memref sig .tc .vmem S1536x216 .bf16) (h3 : A3.IsWhole) (A4 : Memref sig .tc .vmem S192x8 .f32) (h4 : A4.IsWhole)
    (A5 : Memref sig .tc .vmem S192x8 .f32) (h5 : A5.IsWhole) (A6 : Memref sig .tc .vmem S1x192x3136 .f32) (h6 : A6.IsWhole)
    (A7 : Memref sig .tc .vmem S24x3250 .f32) (h7 : A7.IsWhole) (A8 : Memref sig .tc .vmem S216x3136 .bf16) (h8 : A8.IsWhole)
    (x0 : Vec Ideal S1x192x3136 .f32) (x1 : Vec Ideal S8x384 .f32) (x2 : Vec Ideal S1536x216 .bf16) (x3 : Vec Ideal S192x8 .f32) (x4 : Vec Ideal S192x8 .f32)

/-- The router's weights as a table. -/
abbrev table (x1 : Vec Ideal S8x384 .f32) (e : Fin 8) (i : Fin 384) : EReal := x1 (ix2 e i)

abbrev left := View.readAt (Elt Ideal) A2.view (Rect.unit (s := S8x384) ![0, 0] S8x192.size inb_S8x384_S8x192_0_0).toLoadRect (h2.unread x1)
abbrev right := View.readAt (Elt Ideal) A2.view (Rect.unit (s := S8x384) ![0, 192] S8x192.size inb_S8x384_S8x192_0_192).toLoadRect (h2.unread x1)

theorem joined_eq : joined (left A2 h2 x1) (right A2 h2 x1) = table x1 := by
  funext e k
  by_cases hk : k.val < 192
  · refine (joined_left _ _ e ⟨k.val, hk⟩).trans ?_
    refine (h2.readAt_unread x1 _ _).trans ?_
    refine congrArg x1 ?_
    funext a
    fin_cases a <;> refine Fin.ext ?_
    · show 0 + 1 * e.val = e.val; omega
    · show 0 + 1 * k.val = k.val; omega
  · have hk' : k = ⟨192 + (k.val - 192), by omega⟩ := Fin.ext (by show k.val = 192 + (k.val - 192); omega)
    rw [hk']
    refine (joined_right _ _ e ⟨k.val - 192, by omega⟩).trans ?_
    refine (h2.readAt_unread x1 _ _).trans ?_
    refine congrArg x1 ?_
    funext a
    fin_cases a <;> refine Fin.ext ?_
    · show 0 + 1 * e.val = e.val; omega
    · show 192 + 1 * (k.val - 192) = 192 + (k.val - 192); omega

theorem image_read : image (View.readAt (Elt Ideal) A1.view (Rect.unit (s := S1x192x3136) ![0, 0, 0] S1x192x3136.size inb_S1x192x3136_S1x192x3136_0_0_0).toLoadRect (h1.unread x0)) = image x0 := by
  rw [read_whole A1 h1 x0 ![0, 0, 0] (by decide)]

/-- The image's scores. -/
abbrev scores (x0 : Vec Ideal S1x192x3136 .f32) (x1 : Vec Ideal S8x384 .f32) : Fin 8 → EReal := score (image x0) (table x1)

theorem v61_eq : bodyRun.sl.v61 c A1 h1 A2 h2 x0 x1 = BitVec.ofNat 32 (place (gate (scores x0 x1)) 0).val := by
  unfold bodyRun.sl.v61 bodyRun.sl.r bodyRun.sl.r_1
  refine (first_expert _ _ _).trans ?_
  rw [image_read, joined_eq]

theorem v77_eq : bodyRun.sl.v77 c A1 h1 A2 h2 x0 x1 = BitVec.ofNat 32 (place (gate (scores x0 x1)) 1).val := by
  unfold bodyRun.sl.v77 bodyRun.sl.r bodyRun.sl.r_1
  refine (second_expert _ _ _).trans ?_
  rw [image_read, joined_eq]

theorem r2_eq : bodyRun.sl.r_2 c A1 h1 A2 h2 x0 x1 = share (scores x0 x1) 0 := by
  unfold bodyRun.sl.r_2 bodyRun.sl.r bodyRun.sl.r_1
  refine (first_share _ _ _).trans ?_
  rw [image_read, joined_eq]

theorem r3_eq : bodyRun.sl.r_3 c A1 h1 A2 h2 x0 x1 = share (scores x0 x1) 1 := by
  unfold bodyRun.sl.r_3 bodyRun.sl.r bodyRun.sl.r_1
  refine (second_share _ _ _).trans ?_
  rw [image_read, joined_eq]

variable (hx : ∀ c p, x0 (ix3 0 c p) = ((x0 (ix3 0 c p)).toReal : EReal))
  (hw : ∀ r k, x2 (ix2 r k) = ((x2 (ix2 r k)).toReal : EReal)) (ha : ∀ c e, x3 (ix2 c e) = ((x3 (ix2 c e)).toReal : EReal))

include hx hw ha
theorem r11_eq (o : Fin 192) (p : Fin 3136) :
    bodyRun.sl.r_11 H c A1 h1 A2 h2 A3 h3 A4 h4 A5 h5 A7 A8 x0 x1 x2 x3 x4 (ix2 o p)
      = share (scores x0 x1) 0 * silu (branch (image x0) (fun r k => x2 (ix2 r k)) (fun e c => x3 (ix2 c e)) (fun e c => x4 (ix2 c e))
          (place (gate (scores x0 x1)) 0) o p) := by
  unfold bodyRun.sl.r_11
  rw [read_whole A4 h4 x3 ![0, 0] (by decide), read_whole A5 h5 x4 ![0, 0] (by decide), r2_eq, v61_eq]
  refine (pay37_eq _ _ k0_pay21 x3 x4 _ (place (gate (scores x0 x1)) 0) _ (fun o => ha o _) _
    (first_product H c A1 h1 A2 h2 A3 h3 A7 A8 x0 x1 x2 _ hx _ hw _ (v61_eq c A1 h1 A2 h2 x0 x1)) o p).trans ?_
  have hz : k0_pay21 (F := Ideal) (ix2 o p) = 0 := by unfold k0_pay21; pointwise
  rw [hz, zero_add]
  rfl

theorem block_eq (o : Fin 192) (p : Fin 3136) :
    View.canon (bodyRun H c i A1 h1 A2 h2 A3 h3 A4 h4 A5 h5 A6 h6 A7 h7 A8 h8 x0 x1 x2 x3 x4).1 (ix3 0 o p)
      = moe (image x0) (table x1) (fun r k => x2 (ix2 r k)) (fun e c => x3 (ix2 c e)) (fun e c => x4 (ix2 c e)) o p := by
  have hL : (bodyRun H c i A1 h1 A2 h2 A3 h3 A4 h4 A5 h5 A6 h6 A7 h7 A8 h8 x0 x1 x2 x3 x4).1
      = [⟨Rect.unit (s := S1x192x3136) ![0, 0, 0] S1x192x3136.size inb_S1x192x3136_S1x192x3136_0_0_0,
          k0_pay1 (bodyRun.sl.r_16 H c A1 h1 A2 h2 A3 h3 A4 h4 A5 h5 A7 A8 x0 x1 x2 x3 x4)⟩] := by rfl
  rw [hL, View.canon_cons_unit_lit _ _ _ (by decide)]
  have h1' : k0_pay1 (bodyRun.sl.r_16 H c A1 h1 A2 h2 A3 h3 A4 h4 A5 h5 A7 A8 x0 x1 x2 x3 x4) (ix3 0 o p)
      = bodyRun.sl.r_16 H c A1 h1 A2 h2 A3 h3 A4 h4 A5 h5 A7 A8 x0 x1 x2 x3 x4 (ix2 o p) := by unfold k0_pay1; pointwise
  rw [h1']
  unfold bodyRun.sl.r_16
  rw [read_whole A4 h4 x3 ![0, 0] (by decide), read_whole A5 h5 x4 ![0, 0] (by decide), r3_eq, v77_eq]
  refine (pay52_eq _ _ (bodyRun.sl.r_11 H c A1 h1 A2 h2 A3 h3 A4 h4 A5 h5 A7 A8 x0 x1 x2 x3 x4) x3 x4 _ (place (gate (scores x0 x1)) 1) _ (fun o => ha o _) _
    (second_product H c A1 h1 A2 h2 A3 h3 A7 A8 x0 x1 x2 _ hx _ hw _ (v77_eq c A1 h1 A2 h2 x0 x1)) o p).trans ?_
  rw [r11_eq H c A1 h1 A2 h2 A3 h3 A4 h4 A5 h5 A7 A8 x0 x1 x2 x3 x4 hx hw ha]
  rfl
end

end Cert.Moe

end
-- ==== Proof.Frame.lean ====
/-
  The kernel's launch from its body's run (Body.lean): the proof data of the one pipeline, the body obligation at a
  generic point, and the run of @main with every argument array unchanged and every counter back at zero. Everything
  is at any float instance whose chosen experts are in range (`Chosen`).
-/
module

public import proofs.«01_k».proof.Proof.Body
public import Idealize.ShloMosaic.Lib.Pipeline.Value
public import Idealize.ShloMosaic.Lib.Claim

@[expose] public section

set_option maxRecDepth 16384

noncomputable section

namespace Cert.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (H : Chosen F) (m : (ℓ : Loc nD τ sig) → Buf (Elt F) ℓ) (ρ : Dev nD → PrngReg)

/-- The body's run at point `t` of core `c`, on the point's buffers and input blocks. -/
abbrev runAt (c : Dev nD) (t : Fin cfg0.N) :=
  bodyRun H c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5))
    (hstage0_5 ((cfg0.slots t 5).cast nbuf0_5)) (Memref.whole cc0_scratch0) (Memref.isWhole_whole _)
    (Memref.whole cc0_scratch1) (Memref.isWhole_whole _)
    (iblk m c 0 t) (iblk m c 1 t) (iblk m c 2 t) (iblk m c 3 t) (iblk m c 4 t)

/-- What the body leaves in the result's block at point `t`. -/
def outAt (c : Dev nD) (t : Fin cfg0.N) : Vec F S1x192x3136 .f32 := View.canon (runAt H m c t).1

/-- The one store of the body covers the block. -/
theorem runAt_cover (c : Dev nD) (t : Fin cfg0.N) (y : S1x192x3136.Idx) : ∃ pc ∈ (runAt H m c t).1, y ∈ pc.1.set :=
  View.cover_of_tiledL (runAt H m c t).1 S1x192x3136.size (by sl_kernel_rfl) y

/-- The proof data: arrays as the region finds them, inputs left in place, the result's block at `outAt`. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt H m c t
  Φ _ := Pipeline.ΦA spec0 c
  q _ := fullShare
  owed _ := 0

theorem pdat_A (c : Dev nD) (w : Fin cfg0.W) : (pdat H m 0 c).A w = V m c (Pipeline.arrRef spec0 w) := by dsimp only [pdat]
theorem after_0 (c : Dev nD) (t : Fin cfg0.N) : (pdat H m 0 c).after 0 t = iblk m c 0 t := by dsimp only [pdat]
theorem after_1 (c : Dev nD) (t : Fin cfg0.N) : (pdat H m 0 c).after 1 t = iblk m c 1 t := by dsimp only [pdat]
theorem after_2 (c : Dev nD) (t : Fin cfg0.N) : (pdat H m 0 c).after 2 t = iblk m c 2 t := by dsimp only [pdat]
theorem after_3 (c : Dev nD) (t : Fin cfg0.N) : (pdat H m 0 c).after 3 t = iblk m c 3 t := by dsimp only [pdat]
theorem after_4 (c : Dev nD) (t : Fin cfg0.N) : (pdat H m 0 c).after 4 t = iblk m c 4 t := by dsimp only [pdat]
theorem after_5 (c : Dev nD) (t : Fin cfg0.N) : (pdat H m 0 c).after 5 t = outAt H m c t := by dsimp only [pdat]

theorem before_0 (c : Dev nD) (t : Fin cfg0.N) (d) : (pdat H m 0 c).before 0 t d = iblk m c 0 t :=
  before0_0_of m _ (pdat_A H m c 0) (after_0 H m c) t d
theorem before_1 (c : Dev nD) (t : Fin cfg0.N) (d) : (pdat H m 0 c).before 1 t d = iblk m c 1 t :=
  before0_1_of m _ (pdat_A H m c 1) (after_1 H m c) t d
theorem before_2 (c : Dev nD) (t : Fin cfg0.N) (d) : (pdat H m 0 c).before 2 t d = iblk m c 2 t :=
  before0_2_of m _ (pdat_A H m c 2) (after_2 H m c) t d
theorem before_3 (c : Dev nD) (t : Fin cfg0.N) (d) : (pdat H m 0 c).before 3 t d = iblk m c 3 t :=
  before0_3_of m _ (pdat_A H m c 3) (after_3 H m c) t d
theorem before_4 (c : Dev nD) (t : Fin cfg0.N) (d) : (pdat H m 0 c).before 4 t d = iblk m c 4 t :=
  before0_4_of m _ (pdat_A H m c 4) (after_4 H m c) t d

/-- The class's invariant, its two scratch buffers as memrefs owned at some contents. -/
theorem inv_eq (c : Dev nD) : (Pipeline.ΦA spec0 c : sProp 𝕄)
    = iprop(iprop((∃ d, owns (c : Thread nD τ) (Memref.whole cc0_scratch0 : Memref sig .tc .vmem S24x3250 .f32) fullShare d)
        ∗ (∃ d, owns (c : Thread nD τ) (Memref.whole cc0_scratch1 : Memref sig .tc .vmem S216x3136 .bf16) fullShare d)) ∗ (∃ r, prngReg c r)) := by
  unfold Pipeline.ΦA; rw [scopedRest0_eq]; simp only [owns_whole]; try rfl

/-- What the body is called with at a point, window by window. -/
def atEntry (c : Dev nD) (t : Fin cfg0.N) : sProp 𝕄 :=
  iprop((pdat H m 0 c).Φ t.castSucc ∗ (pdat H m 0 c).owesAt () t.castSucc
    ∗ (∃ d, owns (c : Thread nD τ) (st0_0 t) fullShare ((pdat H m 0 c).before 0 t d))
    ∗ (∃ d, owns (c : Thread nD τ) (st0_1 t) fullShare ((pdat H m 0 c).before 1 t d))
    ∗ (∃ d, owns (c : Thread nD τ) (st0_2 t) fullShare ((pdat H m 0 c).before 2 t d))
    ∗ (∃ d, owns (c : Thread nD τ) (st0_3 t) fullShare ((pdat H m 0 c).before 3 t d))
    ∗ (∃ d, owns (c : Thread nD τ) (st0_4 t) fullShare ((pdat H m 0 c).before 4 t d))
    ∗ (∃ d, owns (c : Thread nD τ) (st0_5 t) fullShare ((pdat H m 0 c).before 5 t d)))

/-- What it hands back. -/
def atExit (c : Dev nD) (t : Fin cfg0.N) : sProp 𝕄 :=
  iprop((pdat H m 0 c).Φ t.succ ∗ (pdat H m 0 c).owesAt () t.succ
    ∗ owns (c : Thread nD τ) (st0_0 t) fullShare ((pdat H m 0 c).after 0 t)
    ∗ owns (c : Thread nD τ) (st0_1 t) fullShare ((pdat H m 0 c).after 1 t)
    ∗ owns (c : Thread nD τ) (st0_2 t) fullShare ((pdat H m 0 c).after 2 t)
    ∗ owns (c : Thread nD τ) (st0_3 t) fullShare ((pdat H m 0 c).after 3 t)
    ∗ owns (c : Thread nD τ) (st0_4 t) fullShare ((pdat H m 0 c).after 4 t)
    ∗ owns (c : Thread nD τ) (st0_5 t) fullShare ((pdat H m 0 c).after 5 t))

set_option maxHeartbeats 800000 in
/-- The body at any point, from the run. -/
theorem point_sound (c : Dev nD) (t : Fin cfg0.N) :
    atEntry H m c t ⊢ wp frame (wpE (defs₀ (F := F)) Variants.none c none) Set.univ (bodyAt0 t) (fun _ => atExit H m c t) := by
  unfold atEntry atExit bodyAt0
  simp only [before_0, before_1, before_2, before_3, before_4]
  rw [show (pdat H m 0 c).Φ t.succ = (pdat H m 0 c).Φ t.castSucc from rfl,
    show (pdat H m 0 c).owesAt () t.succ = (pdat H m 0 c).owesAt () t.castSucc from rfl,
    after_0, after_1, after_2, after_3, after_4, after_5]
  rw [show (pdat H m 0 c).Φ t.castSucc = Pipeline.ΦA spec0 c from rfl, inv_eq]
  iintro ⟨⟨⟨S0, S1⟩, Hg⟩, Ho, ⟨%d0, H0⟩, ⟨%d1, H1⟩, ⟨%d2, H2⟩, ⟨%d3, H3⟩, ⟨%d4, H4⟩, ⟨%d5, H5⟩⟩
  iapply ((runAt H m c t).2 Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  iintro ⟨H0, H1, H2, H3, H4, ⟨%e5, H5⟩, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (runAt_cover H m c t)

theorem row_eq (t : Fin cfg0.N) : defs₀ (F := F) .tc cfg0.body (cfg0.bodyArgs t (cfg0.slots t)) = bodyAt0 t := by
  unfold defs₀; rw [Defs.onTc_tc]

theorem obligation (c : Dev nD) : BodyObligation (pdat (F := F) H m 0 c) (defs₀ (F := F)) Variants.none () Set.univ := fun t => by
  rw [bigSep_W0, bigSep_W0, row_eq]
  exact triple_restated (point_sound H m c t) rfl .rfl fun _ => .rfl

set_option backward.isDefEq.respectTransparency.types false in
/-- The launch: the pipeline's arrays at what the proof data compute, every counter at zero. -/
theorem launch_quiescent : θ_run defs (onTc (τ := τ) (main (F := F))) (s₀ m ρ)
    (fun r => (Pipeline.FramePost cfgs (pdat H m) 0 (V m)) r ∧ r.2.sem = fun _ => 0) :=
  Pipeline.θ_run_frame (Q' := _) cfgs (pdat H m) (0 : Fin 1) launch0 defs₀ Variants.none m ρ main
    (hbody := fun c => (obligation H m c).loose) (hshare := fun c => (pdat H m 0 c).share_full fun _ => rfl)
    (howed := fun _ _ => rfl) (V := V m) (hmain := hmain m Variants.none) (hA := pdat_A H m) (hΦ := fun _ _ => rfl)

theorem launch : θ_run defs (onTc (τ := τ) (main (F := F))) (s₀ m ρ) (Pipeline.FramePost cfgs (pdat H m) 0 (V m)) :=
  (θ_run defs _ _).mono (fun _ h => h.1) (launch_quiescent H m ρ)

include H in
/-- The frame claim: arguments unchanged, counters at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (pdat H m) (pdat_A H m) (launch H m ρ)) ((θ_run defs _ _).mono (fun _ h => h.2) (launch_quiescent H m ρ))

include H in
/-- The result array after the run, beside the unchanged arguments. -/
theorem kernel_run : θ_run defs (onTc (τ := τ) (main (F := F))) ⟨m, fun _ => 0, ρ⟩ (fun r => ∀ c : Dev nD,
      r.2.mem ((c.tc : Thread nD τ).loc main_v4) = (pdat H m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 : θ_run defs (onTc (τ := τ) (main (F := F))) (s₀ m ρ) (fun r => ∀ c : Dev nD,
      r.2.mem ((c.tc : Thread nD τ).loc main_v4) = (pdat H m 0 c).arrAt 5 cfg0.N) :=
    (θ_run defs _ _).mono (fun r h c => (h c).1 5) (launch H m ρ)
  have h2 := frame_of m ρ (pdat H m) (pdat_A H m) (launch H m ρ)
  exact (θ_run defs _ _).mono (fun r h c => ⟨h.1 c, h.2 c⟩) (θ_run_and h1 h2)

end Cert.Moe

end
-- ==== Proof.Args.lean ====
/-
  The five argument arrays read as tables, and the result as one function of them.
-/
module

public import proofs.«01_k».proof.Proof.Spec
public import Idealize.ShloMosaic.Lib.Pipeline.ValueKit

@[expose] public section

set_option maxRecDepth 16384

noncomputable section

namespace Cert.Moe

open Idealize.ShloMosaic

/-- Row of pixel `p`. -/
abbrev prow (p : Fin 3136) : Fin 56 := ⟨p.val / 56, by omega⟩
/-- Column of pixel `p`. -/
abbrev pcol (p : Fin 3136) : Fin 56 := ⟨p.val % 56, Nat.mod_lt _ (by norm_num)⟩

section
variable (x : (⟨4, ![4, 192, 56, 56]⟩ : Shape).Idx → EReal) (r : (⟨2, ![8, 384]⟩ : Shape).Idx → EReal)
  (w : (⟨2, ![1536, 216]⟩ : Shape).Idx → EReal) (a b : (⟨2, ![8, 192]⟩ : Shape).Idx → EReal)

/-- Image `n`, its pixels in a row. -/
def pixels (n : Fin 4) (c : Fin 192) (p : Fin 3136) : EReal := x (ix4 n c (prow p) (pcol p))

/-- An array with two axes as a table. -/
def tab {k l : Nat} (y : (⟨2, ![k, l]⟩ : Shape).Idx → EReal) (i : Fin k) (j : Fin l) : EReal := y (ix2 i j)

/-- The result array. -/
def result : (⟨3, ![4, 192, 3136]⟩ : Shape).Idx → EReal := fun j => moe (pixels x (j 0)) (tab r) (tab w) (tab a) (tab b) (j 1) (j 2)

/-- Every entry is a real number. -/
def AllReal {s : Shape} (y : s.Idx → EReal) : Prop := ∀ i, y i = ((y i).toReal : EReal)
end

end Cert.Moe

end
-- ==== Proof.KResult.lean ====
/-
  The kernel's result array: each grid point writes one image's block, and the four blocks tile the array.
-/
module

public import proofs.«01_k».proof.Proof.KBlock
public import proofs.«01_k».proof.Proof.Frame
public import proofs.«01_k».proof.Proof.Args
public import Idealize.ShloMosaic.Lib.Pipeline.Value
public import Idealize.ShloMosaic.Lib.Claim

@[expose] public section

set_option maxRecDepth 16384

noncomputable section

namespace Cert.Moe

open Cert.KernelIdeal Cert.KernelIdeal.Gen
open Idealize.ShloMosaic Idealize.ShloMosaic.TcCoe Idealize.ShloMosaic.Tactic
open Idealize.ShloMosaic.Pipeline (Dat)
open scoped BigOperators

variable (H : Chosen Ideal) (m : (ℓ : Loc nD τ sig) → Buf (Elt Ideal) ℓ)

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 0, 0] :=
  (by decide +kernel : ∀ t : Fin grid0.N, win0_5.index t = ![t.val, 0, 0])

/-- The point's image. -/
abbrev img (t : Fin cfg0.N) : Fin 4 := ⟨t.val, t.isLt.trans_le (le_of_eq N_0)⟩

theorem block0 (c : Dev nD) (t : Fin cfg0.N) (k : Fin 192) (p : Fin 3136) :
    (iblk m c 0 t : Vec Ideal S1x192x3136 .f32) (ix3 0 k p) = pixels (m ((c : Thread nD τ).loc main_arg0)) (img t) k p := by
  unfold pixels
  have e : (iblk m c 0 t : Vec Ideal S1x192x3136 .f32) (ix3 0 k p) = (V m c main_v0 : Vec Ideal S4x192x3136 .f32) (ix3 (img t) k p) := by
    blk_ext [iblk, index0 t]
  rw [e]
  entry_read
  pointwise

theorem block1 (c : Dev nD) (t : Fin cfg0.N) (e : Fin 8) (i : Fin 384) :
    (iblk m c 1 t : Vec Ideal S8x384 .f32) (ix2 e i) = tab (m ((c : Thread nD τ).loc main_arg1)) e i := by
  unfold tab
  blk_ext [iblk, V, index1 t]

theorem block2 (c : Dev nD) (t : Fin cfg0.N) (r : Fin 1536) (k : Fin 216) :
    (iblk m c 2 t : Vec Ideal S1536x216 .bf16) (ix2 r k) = tab (m ((c : Thread nD τ).loc main_arg2)) r k := by
  unfold tab
  blk_ext [iblk, V, index2 t]

theorem block3 (c : Dev nD) (t : Fin cfg0.N) (k : Fin 192) (e : Fin 8) :
    (iblk m c 3 t : Vec Ideal S192x8 .f32) (ix2 k e) = tab (m ((c : Thread nD τ).loc main_arg3)) e k := by
  unfold tab
  have f : (iblk m c 3 t : Vec Ideal S192x8 .f32) (ix2 k e) = (V m c main_v2 : Vec Ideal S192x8 .f32) (ix2 k e) := by
    blk_ext [iblk, index3 t]
  rw [f]
  entry_read
  pointwise

theorem block4 (c : Dev nD) (t : Fin cfg0.N) (k : Fin 192) (e : Fin 8) :
    (iblk m c 4 t : Vec Ideal S192x8 .f32) (ix2 k e) = tab (m ((c : Thread nD τ).loc main_arg4)) e k := by
  unfold tab
  have f : (iblk m c 4 t : Vec Ideal S192x8 .f32) (ix2 k e) = (V m c main_v3 : Vec Ideal S192x8 .f32) (ix2 k e) := by
    blk_ext [iblk, index4 t]
  rw [f]
  entry_read
  pointwise

theorem result_at (x r w a b) (n : Fin 4) (o : Fin 192) (p : Fin 3136) :
    result x r w a b (ix3 n o p) = moe (pixels x n) (tab r) (tab w) (tab a) (tab b) o p := rfl

/-- One block of the result. -/
theorem block_at (c : Dev nD) (hx : AllReal (m ((c : Thread nD τ).loc main_arg0))) (hw : AllReal (m ((c : Thread nD τ).loc main_arg2)))
    (ha : AllReal (m ((c : Thread nD τ).loc main_arg3))) (t : Fin cfg0.N) (o : Fin 192) (p : Fin 3136) :
    outAt H m c t (ix3 0 o p) = moe (pixels (m ((c : Thread nD τ).loc main_arg0)) (img t)) (tab (m ((c : Thread nD τ).loc main_arg1)))
      (tab (m ((c : Thread nD τ).loc main_arg2))) (tab (m ((c : Thread nD τ).loc main_arg3))) (tab (m ((c : Thread nD τ).loc main_arg4))) o p := by
  have h := (block_eq H c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5))
    (hstage0_5 ((cfg0.slots t 5).cast nbuf0_5)) (Memref.whole cc0_scratch0) (Memref.isWhole_whole _)
    (Memref.whole cc0_scratch1) (Memref.isWhole_whole _)
    (iblk m c 0 t) (iblk m c 1 t) (iblk m c 2 t) (iblk m c 3 t) (iblk m c 4 t)
    (fun k q => by rw [block0]; exact hx _) (fun r k => by rw [block2]; exact hw _) (fun k e => by rw [block3]; exact ha _) o p)
  have i0 : image (iblk m c 0 t) = pixels (m ((c : Thread nD τ).loc main_arg0)) (img t) := by
    funext k q; exact block0 m c t k q
  have i1 : table (iblk m c 1 t) = tab (m ((c : Thread nD τ).loc main_arg1)) := by funext k q; exact block1 m c t k q
  have i2 : (fun r k => (iblk m c 2 t : Vec Ideal S1536x216 .bf16) (ix2 r k)) = tab (m ((c : Thread nD τ).loc main_arg2)) := by
    funext k q; exact block2 m c t k q
  have i3 : (fun e k => (iblk m c 3 t : Vec Ideal S192x8 .f32) (ix2 k e)) = tab (m ((c : Thread nD τ).loc main_arg3)) := by
    funext e k; exact block3 m c t k e
  have i4 : (fun e k => (iblk m c 4 t : Vec Ideal S192x8 .f32) (ix2 k e)) = tab (m ((c : Thread nD τ).loc main_arg4)) := by
    funext e k; exact block4 m c t k e
  refine Eq.trans (show outAt H m c t (ix3 0 o p) = _ from h) ?_
  rw [i0, i1]
  exact (congrArg₂ (fun (u : Fin 1536 → Fin 216 → EReal) v => moe _ _ u v _ o p) i2 i3).trans
    (congrArg (fun v => moe _ _ _ _ v o p) i4)

/-- The kernel's result array. -/
theorem kernel_result (c : Dev nD) (hx : AllReal (m ((c : Thread nD τ).loc main_arg0))) (hw : AllReal (m ((c : Thread nD τ).loc main_arg2)))
    (ha : AllReal (m ((c : Thread nD τ).loc main_arg3))) :
    ((pdat H m 0 c).arrAt 5 cfg0.N : Vec Ideal S4x192x3136 .f32)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine Dat.arrAt_eq_of_covers (pdat H m 0 c) 5 _ (by decide +kernel) fun t hf y => ?_
  obtain ⟨n, o, p, rfl⟩ : ∃ (n : Fin 1) (o : Fin 192) (p : Fin 3136), y = ix3 n o p := ⟨y 0, y 1, y 2, by funext a; fin_cases a <;> rfl⟩
  have e : ((cfg0.win 5).blk t).view.emb (ix3 n o p) = (ix3 (img t) o p : S4x192x3136.Idx) := by
    funext a; refine Fin.ext ?_
    blk_simp [index5 t]
    fin_cases a
    · show t.val * 1 + n.val = t.val; omega
    · show 0 * 192 + o.val = o.val; omega
    · show 0 * 3136 + p.val = p.val; omega
  rw [e]
  obtain rfl : n = 0 := Subsingleton.elim _ _
  rw [after_5, result_at]
  have g := block_at H m c hx hw ha t o p
  refine Eq.trans ?_ g
  refine (cast_eq _ _).trans (congrArg (outAt H m c t) ?_)
  funext a
  exact Fin.ext rfl

end Cert.Moe

end
-- ==== Proof.RRouter.lean ====
/-
  The reference's router: the gate, the two experts its top-two picks and their weights.
-/
module

public import proofs.«01_k».proof.Proof.Args
public import proofs.«01_k».proof.Proof.Gen.ReferenceIdeal.Run
public import Idealize.ShloMosaic.Lib.Pipeline.ValueKit

@[expose] public section

set_option maxRecDepth 16384

noncomputable section

namespace Cert.Moe

open Cert.ReferenceIdeal Cert.ReferenceIdeal.Value
open Idealize.ShloMosaic Idealize.ShloMosaic.TcCoe Idealize.ShloMosaic.Tactic
open scoped BigOperators

/-- The greatest of each row. -/
theorem row_max (x : FVec Ideal S4x8 .f32) (h' : S4x8.ReducesTo [1] S4) (hu : 0 < S_.numel) :
    Host.reduce FloatOps.maximumf x (constant (F := Ideal) S_ .f32 0xFF800000#32) h' hu
      = fun j => Finset.univ.fold max ⊥ fun e : Fin 8 => x (ix2 (j 0) e) := by
  funext j
  obtain ⟨b, rfl⟩ : ∃ b : Fin 4, j = ix1 b := ⟨j 0, by funext a; fin_cases a; rfl⟩
  have h : S4x8.Reduces [1] S4 := by decide
  rw [Host.reduce_eq_fold_single _ x _ h' h hu]
  have hi : ∀ e : Fin 8, h.lift (ix1 b) e = ix2 b e := fun e => by funext a; fin_cases a <;> rfl
  show Finset.univ.fold max (Ideal.ofBits .f32 4286578688#32) (fun e : Fin 8 => x (h.lift (ix1 b) e)) = _
  rw [word_bot]
  simp only [hi]
  rfl

theorem div_one (x : EReal) : Ideal.div x 1 = x := by
  simp [Ideal.div]

theorem pixels_sum (f : Fin 56 → Fin 56 → EReal) : ∑ h, ∑ w, f h w = ∑ p : Fin 3136, f (prow p) (pcol p) := by
  rw [← sum_cells (by rfl : 56 * 56 = 3136)]
  refine Finset.sum_congr rfl fun h _ => Finset.sum_congr rfl fun w _ => ?_
  have h1 : prow (cell (by rfl : 56 * 56 = 3136) h w) = h := Fin.ext (by simp only [cell]; omega)
  have h2 : pcol (cell (by rfl : 56 * 56 = 3136) h w) = w := Fin.ext (by simp only [cell]; omega)
  rw [h1, h2]

section
variable (V0 : Valuation τ sig (Elt Ideal))

abbrev vx : FVec Ideal S4x192x56x56 .f32 := V0 (Proc.devRef .tc main_arg0)
abbrev vr : FVec Ideal S8x384 .f32 := V0 (Proc.devRef .tc main_arg1)
abbrev vw : FVec Ideal S1536x216 .f32 := V0 (Proc.devRef .tc main_arg2)
abbrev va : FVec Ideal S8x192 .f32 := V0 (Proc.devRef .tc main_arg3)
abbrev vb : FVec Ideal S8x192 .f32 := V0 (Proc.devRef .tc main_arg4)

theorem v4_eq (b : Fin 4) (c : Fin 192) : res_main_v4 V0 (ix2 b c) = avg (pixels (vx V0) b) c := by
  unfold res_main_v4 avg pixels
  pointwise
  rw [← pixels_sum (fun h w => vx V0 (ix4 b c h w))]

theorem v15_eq (b : Fin 4) (e : Fin 8) : res_main_v15 V0 (ix2 b e) = score (pixels (vx V0) b) (tab (vr V0)) e := by
  have h4 : res_main_v4 V0 = fun j => avg (pixels (vx V0) (j 0)) (j 1) := by
    funext j
    obtain ⟨b, c, rfl⟩ : ∃ (b : Fin 4) (c : Fin 192), j = ix2 b c := ⟨j 0, j 1, by funext a; fin_cases a <;> rfl⟩
    exact v4_eq V0 b c
  unfold res_main_v15 res_main_v7
  rw [h4]
  pointwise
  unfold score spread pixels tab
  congr 1
  · exact Finset.sum_congr rfl fun c _ => mul_comm _ _
  · refine Finset.sum_congr rfl fun c _ => (mul_comm _ _).trans ?_
    exact congrArg (fun z => vr V0 (ix2 e ⟨192 + c.val, by omega⟩) * Ideal.sqrt (Ideal.div z (Ideal.ofBits .f32 1162080256#32)))
      (pixels_sum fun h w => (vx V0 (ix4 b c h w) - avg (pixels (vx V0) b) c) * (vx V0 (ix4 b c h w) - avg (pixels (vx V0) b) c))

theorem v15_fun : res_main_v15 V0 = fun j => score (pixels (vx V0) (j 0)) (tab (vr V0)) (j 1) := by
  funext j
  obtain ⟨b, c, rfl⟩ : ∃ (b : Fin 4) (c : Fin 8), j = ix2 b c := ⟨j 0, j 1, by funext a; fin_cases a <;> rfl⟩
  exact v15_eq V0 b c

theorem v22_eq (b : Fin 4) (e : Fin 8) : res_main_v22 V0 (ix2 b e)
    = Ideal.exp (score (pixels (vx V0) b) (tab (vr V0)) e - Finset.univ.fold max ⊥ (score (pixels (vx V0) b) (tab (vr V0)))) := by
  unfold res_main_v22
  rw [row_max, v15_fun]
  pointwise
  rw [word_bot, max_eq_right bot_le]

theorem v32_eq (b : Fin 4) (e : Fin 8) : res_main_v32 V0 (ix2 b e) = clip (soft (score (pixels (vx V0) b) (tab (vr V0))) e) := by
  have h : res_main_v22 V0 = fun j => Ideal.exp (score (pixels (vx V0) (j 0)) (tab (vr V0)) (j 1)
      - Finset.univ.fold max ⊥ (score (pixels (vx V0) (j 0)) (tab (vr V0)))) := by
    funext j
    obtain ⟨b, c, rfl⟩ : ∃ (b : Fin 4) (c : Fin 8), j = ix2 b c := ⟨j 0, j 1, by funext a; fin_cases a <;> rfl⟩
    exact v22_eq V0 b c
  unfold res_main_v32
  rw [h]
  pointwise
  rw [div_one, min_comm, max_comm]
  rfl

theorem v32_fun : res_main_v32 V0 = fun j => clip (soft (score (pixels (vx V0) (j 0)) (tab (vr V0))) (j 1)) := by
  funext j
  obtain ⟨b, c, rfl⟩ : ∃ (b : Fin 4) (c : Fin 8), j = ix2 b c := ⟨j 0, j 1, by funext a; fin_cases a <;> rfl⟩
  exact v32_eq V0 b c

/-- The gate of image `b`. -/
def rgate (b : Fin 4) : Fin 8 → EReal := gate (score (pixels (vx V0) b) (tab (vr V0)))

theorem v43_eq (b : Fin 4) (e : Fin 8) : res_main_v43 V0 (ix2 b e) = rgate V0 b e := by
  have h : res_main_v39 V0 = fun j => Ideal.exp (clip (soft (score (pixels (vx V0) (j 0)) (tab (vr V0))) (j 1))
      - Finset.univ.fold max ⊥ fun e => clip (soft (score (pixels (vx V0) (j 0)) (tab (vr V0))) e)) := by
    funext j
    obtain ⟨b, c, rfl⟩ : ∃ (b : Fin 4) (c : Fin 8), j = ix2 b c := ⟨j 0, j 1, by funext a; fin_cases a <;> rfl⟩
    unfold res_main_v39
    rw [row_max, v32_fun]
    pointwise
    rw [word_bot, max_eq_right bot_le]
  unfold res_main_v43
  rw [h]
  pointwise
  rfl

theorem before_eq (q : Fin 8 → EReal) :
    (fun i j : Fin 8 => FloatOps.cmpfTotal (F := Ideal) (φ := .f32) .gt (q i) (q j) == 1#1) = fun i j => decide (q j < q i) := by
  funext i j
  show (Ideal.cmp .ogt (q i) (q j) == 1#1) = _
  by_cases h : q j < q i <;> simp [Ideal.cmp, h]

theorem along_eq (b : Fin 4) (k e : Fin 8) : (ix2 b k : S4x8.Idx).along 1 e = ix2 b e := by
  funext a; fin_cases a <;> rfl

/-- The stable sort of a row carrying its places, greatest first. -/
theorem sorted (x : FVec Ideal S4x8 .f32) (y : IVec S4x8 32) (b : Fin 4) (k : Fin 8) :
    (Host.sort2 S4x8 1 (fun l r => FloatOps.cmpfTotal (F := Ideal) (φ := .f32) .gt l.1 r.1) x y).1 (ix2 b k) = x (ix2 b (place (fun e => x (ix2 b e)) k))
    ∧ (Host.sort2 S4x8 1 (fun l r => FloatOps.cmpfTotal (F := Ideal) (φ := .f32) .gt l.1 r.1) x y).2 (ix2 b k) = y (ix2 b (place (fun e => x (ix2 b e)) k)) := by
  have hp : sortedFrom (fun i j : Fin 8 => FloatOps.cmpfTotal (F := Ideal) (φ := .f32) .gt (x ((ix2 b k : S4x8.Idx).along 1 i))
      (x ((ix2 b k : S4x8.Idx).along 1 j)) == 1#1) k = place (fun e => x (ix2 b e)) k := by
    simp only [along_eq]
    exact congrFun (congrArg sortedFrom (before_eq fun e => x (ix2 b e))) k
  unfold Host.sort2
  rw [dif_pos (by decide)]
  constructor
  · exact congrArg x ((congrArg ((ix2 b k : S4x8.Idx).along 1) hp).trans (along_eq _ _ _))
  · exact congrArg y ((congrArg ((ix2 b k : S4x8.Idx).along 1) hp).trans (along_eq _ _ _))

theorem cut_eq {A : Type} (v : S4x8.Idx → A) (b : Fin 4) (k : Fin 2) (h : S4x8.Slices (fun _ => 0) S4x2) :
    extractStridedSlice S4x2 (fun _ => 0) v h (ix2 b k) = v (ix2 b ⟨k.val, by omega⟩) := by
  unfold extractStridedSlice
  refine congrArg v ?_
  funext a
  fin_cases a
  · exact Fin.ext (Nat.zero_add _)
  · exact Fin.ext (Nat.zero_add _)

theorem top_value (x : FVec Ideal S4x8 .f32) (b : Fin 4) (k : Fin 2) (h) :
    (Host.topK S4x2 1 (FloatOps.cmpfTotal (F := Ideal) (φ := .f32) .gt) x h).1 (ix2 b k) = x (ix2 b (place (fun e => x (ix2 b e)) ⟨k.val, by omega⟩)) := by
  exact (cut_eq (Host.sort2 S4x8 1 (fun l r => FloatOps.cmpfTotal (F := Ideal) (φ := .f32) .gt l.1 r.1) x (iotaInDim S4x8 32 1)).1 b k h).trans
    (sorted x (iotaInDim S4x8 32 1) b _).1

theorem top_index (x : FVec Ideal S4x8 .f32) (b : Fin 4) (k : Fin 2) (h) :
    (Host.topK S4x2 1 (FloatOps.cmpfTotal (F := Ideal) (φ := .f32) .gt) x h).2 (ix2 b k) = BitVec.ofNat 32 (place (fun e => x (ix2 b e)) ⟨k.val, by omega⟩).val := by
  exact (cut_eq (Host.sort2 S4x8 1 (fun l r => FloatOps.cmpfTotal (F := Ideal) (φ := .f32) .gt l.1 r.1) x (iotaInDim S4x8 32 1)).2 b k h).trans
    ((sorted x (iotaInDim S4x8 32 1) b _).2.trans rfl)

theorem v43_fun : res_main_v43 V0 = fun j => rgate V0 (j 0) (j 1) := by
  funext j
  obtain ⟨b, c, rfl⟩ : ∃ (b : Fin 4) (c : Fin 8), j = ix2 b c := ⟨j 0, j 1, by funext a; fin_cases a <;> rfl⟩
  exact v43_eq V0 b c

/-- The `k`-th expert of image `b`. -/
def rplace (b : Fin 4) (k : Fin 2) : Fin 8 := place (rgate V0 b) ⟨k.val, by omega⟩

theorem values_eq (b : Fin 4) (k : Fin 2) : res_main_values V0 (ix2 b k) = rgate V0 b (rplace V0 b k) := by
  unfold res_main_values
  rw [v43_fun]
  exact top_value _ b k _

theorem indices_eq (b : Fin 4) (k : Fin 2) : res_main_indices V0 (ix2 b k) = BitVec.ofNat 32 (rplace V0 b k).val := by
  unfold res_main_indices
  rw [v43_fun]
  exact top_index _ b k _

theorem v49_eq (b : Fin 4) (k : Fin 2) :
    res_main_v49 V0 (ix2 b k) = share (score (pixels (vx V0) b) (tab (vr V0))) ⟨k.val, by omega⟩ := by
  have h : res_main_values V0 = fun j => rgate V0 (j 0) (rplace V0 (j 0) (j 1)) := by
    funext j
    obtain ⟨b, c, rfl⟩ : ∃ (b : Fin 4) (c : Fin 2), j = ix2 b c := ⟨j 0, j 1, by funext a; fin_cases a <;> rfl⟩
    exact values_eq V0 b c
  unfold res_main_v49
  rw [h]
  pointwise
  rw [Fin.sum_univ_two]
  rfl

theorem v110_eq (b : Fin 4) : res_main_v110 V0 (ix1 b) = BitVec.ofNat 32 (rplace V0 b 0).val := by
  unfold res_main_v110
  pointwise
  exact indices_eq V0 b 0

theorem v178_eq (b : Fin 4) : res_main_v178 V0 (ix1 b) = BitVec.ofNat 32 (rplace V0 b 1).val := by
  unfold res_main_v178
  pointwise
  exact indices_eq V0 b 1
end

end Cert.Moe

end
-- ==== Proof.RConv.lean ====
/-
  The reference's convolution: nine taps of the padded image against the nine slices of the weights.
-/
module

public import proofs.«01_k».proof.Proof.RRouter

@[expose] public section

set_option maxRecDepth 16384

noncomputable section

namespace Cert.Moe

open Cert.ReferenceIdeal Cert.ReferenceIdeal.Value
open Idealize.ShloMosaic Idealize.ShloMosaic.TcCoe Idealize.ShloMosaic.Tactic
open scoped BigOperators

section
variable (V0 : Valuation τ sig (Elt Ideal))

theorem v51_eq (b : Fin 4) (e : Fin 8) (c : Fin 24) (h w : Fin 58) :
    res_main_v51 V0 (ix5 b e c h w) = if k : (1 ≤ h.val ∧ h.val ≤ 56) ∧ (1 ≤ w.val ∧ w.val ≤ 56) then
      vx V0 (ix4 b (chan e c) ⟨h.val - 1, by omega⟩ ⟨w.val - 1, by omega⟩) else 0 := by
  unfold res_main_v51
  pointwise
  by_cases k : (1 ≤ h.val ∧ h.val ≤ 56) ∧ (1 ≤ w.val ∧ w.val ≤ 56)
  · have hb := b.isLt; have he := e.isLt; have hc := c.isLt
    rw [dif_pos k, dif_pos ?_]
    · rfl
    intro a
    fin_cases a
    · show 0 ≤ b.val ∧ (b.val - 0) % (0 + 1) = 0 ∧ (b.val - 0) / (0 + 1) < 4; omega
    · show 0 ≤ e.val * 24 + c.val ∧ (e.val * 24 + c.val - 0) % (0 + 1) = 0 ∧ (e.val * 24 + c.val - 0) / (0 + 1) < 192; omega
    · show 1 ≤ h.val ∧ (h.val - 1) % (0 + 1) = 0 ∧ (h.val - 1) / (0 + 1) < 56; omega
    · show 1 ≤ w.val ∧ (w.val - 1) % (0 + 1) = 0 ∧ (w.val - 1) / (0 + 1) < 56; omega
  · rw [dif_neg k, dif_neg ?_]
    intro g
    have g2 : 1 ≤ h.val ∧ (h.val - 1) % (0 + 1) = 0 ∧ (h.val - 1) / (0 + 1) < 56 := g 2
    have g3 : 1 ≤ w.val ∧ (w.val - 1) % (0 + 1) = 0 ∧ (w.val - 1) / (0 + 1) < 56 := g 3
    omega

theorem v52_eq (e : Fin 8) (o : Fin 192) (c : Fin 24) (dy dx : Fin 3) :
    res_main_v52 V0 (ix5 e o c dy dx) = tab (vw V0) (wrow e o) (wcol ⟨3 * dy.val + dx.val, by omega⟩ c) := by
  unfold res_main_v52 tab
  pointwise
  exact congrArg (fun k : Fin 216 => vw V0 (ix2 (wrow e o) k)) (Fin.ext (by simp only [cell]; omega))

/-- The pixels and the weights as real numbers. -/
def rx (b : Fin 4) (c : Fin 192) (p : Fin 3136) : ℝ := (pixels (vx V0) b c p).toReal
def rw' (r : Fin 1536) (k : Fin 216) : ℝ := (tab (vw V0) r k).toReal

/-- One tap's sum over the channels of a group. -/
def tapSum (b : Fin 4) (e : Fin 8) (o : Fin 192) (dy dx : Fin 3) (h w : Fin 58) : EReal :=
  ∑ c : Fin 24, @HMul.hMul EReal EReal EReal _ (res_main_v52 V0 (ix5 e o c dy dx)) (res_main_v51 V0 (ix5 b e c h w))

/-- A coordinate moved by a tap. -/
abbrev off (d : Fin 3) (h : Fin 56) : Fin 58 := ⟨d.val + h.val, by omega⟩

theorem v107_sums (b : Fin 4) (e : Fin 8) (o : Fin 192) (h w : Fin 56) :
    res_main_v107 V0 (ix5 b e o h w) = ∑ dy : Fin 3, ∑ dx : Fin 3, tapSum V0 b e o dy dx (off dy h) (off dx w) := by
  have z : ∀ h : Fin 56, off 0 h = ⟨h.val, by omega⟩ := fun h => Fin.ext (Nat.zero_add _)
  rw [Fin.sum_univ_three, Fin.sum_univ_three, Fin.sum_univ_three, Fin.sum_univ_three, z, z]
  simp only [← add_assoc]
  unfold res_main_v107
  pointwise
  rfl

section
variable (hx : AllReal (vx V0)) (hw : AllReal (vw V0))
include hx hw

theorem tap_sum (b : Fin 4) (e : Fin 8) (o : Fin 192) (p : Fin 3136) (dy dx : Fin 3) (h w : Fin 58) (t : Fin 9)
    (hh : h.val = dy.val + p.val / 56) (hv : w.val = dx.val + p.val % 56) (ht : t.val = 3 * dy.val + dx.val) :
    tapSum V0 b e o dy dx h w
      = ((∑ c : Fin 24, rw' V0 (wrow e o) (wcol t c) * tap (rx V0 b (chan e c)) t.val p.val : ℝ) : EReal) := by
  obtain ⟨t, htl⟩ := t
  obtain rfl : t = 3 * dy.val + dx.val := ht
  unfold tapSum
  rw [coe_sum]
  refine Finset.sum_congr rfl fun c _ => ?_
  rw [v52_eq, v51_eq, EReal.coe_mul]
  refine congrArg₂ (fun a b : EReal => a * b) (hw _) ?_
  have hd1 : (3 * dy.val + dx.val) / 3 = dy.val := by omega
  have hd2 : (3 * dy.val + dx.val) % 3 = dx.val := by omega
  unfold tap
  by_cases k : (1 ≤ h.val ∧ h.val ≤ 56) ∧ (1 ≤ w.val ∧ w.val ≤ 56)
  · have k' : tapIn (3 * dy.val + dx.val) p.val := by unfold tapIn; rw [hd1, hd2]; omega
    rw [dif_pos k, dif_pos k']
    unfold rx pixels
    refine (hx _).trans (congrArg (fun i => ((vx V0 i).toReal : EReal)) ?_)
    funext a
    fin_cases a
    · rfl
    · rfl
    · refine Fin.ext ?_
      show h.val - 1 = ((p.val / 56 + (3 * dy.val + dx.val) / 3 - 1) * 56 + (p.val % 56 + (3 * dy.val + dx.val) % 3 - 1)) / 56
      rw [hd1, hd2]; omega
    · refine Fin.ext ?_
      show w.val - 1 = ((p.val / 56 + (3 * dy.val + dx.val) / 3 - 1) * 56 + (p.val % 56 + (3 * dy.val + dx.val) % 3 - 1)) % 56
      rw [hd1, hd2]; omega
  · have k' : ¬ tapIn (3 * dy.val + dx.val) p.val := by unfold tapIn; rw [hd1, hd2]; omega
    rw [dif_neg k, dif_neg k', EReal.coe_zero]

theorem v107_eq (b : Fin 4) (e : Fin 8) (o : Fin 192) (p : Fin 3136) :
    res_main_v107 V0 (ix5 b e o (prow p) (pcol p)) = (conv (rx V0 b) (rw' V0) e o p : EReal) := by
  have h : (∑ dy : Fin 3, ∑ dx : Fin 3, tapSum V0 b e o dy dx (off dy (prow p)) (off dx (pcol p))) = (conv (rx V0 b) (rw' V0) e o p : EReal) := by
    unfold conv
    rw [← sum_cells (by rfl : 3 * 3 = 9), coe_sum]
    refine Finset.sum_congr rfl fun dy _ => ?_
    rw [coe_sum]
    refine Finset.sum_congr rfl fun dx _ => ?_
    exact tap_sum V0 hx hw b e o p dy dx _ _ _ rfl rfl (by simp only [cell]; omega)
  exact (v107_sums V0 b e o _ _).trans h
end
end

end Cert.Moe

end
-- ==== Proof.RGather.lean ====
/-
  The reference's two gathers: an expert's row of a table, and an expert's channels of the convolution.
-/
module

public import proofs.«01_k».proof.Proof.RConv

@[expose] public section

set_option maxRecDepth 16384

noncomputable section

namespace Cert.Moe

open Cert.ReferenceIdeal Cert.ReferenceIdeal.Value
open Idealize.ShloMosaic Idealize.ShloMosaic.TcCoe Idealize.ShloMosaic.Tactic
open scoped BigOperators

theorem word_place (n : Nat) (hn : n < 8) : (BitVec.ofNat 32 n).toInt.toNat = n := by
  interval_cases n <;> rfl

abbrev rowDims := gather_S8x192_S4x1_S4x192_1_0_n_n_0_1_1192
abbrev imageDims := gather_S4x8x192x56x56_S4x2_S4x192x56x56_123_01_n_n_01_1_111925656

section
variable (j : S4x192.Idx) (idx : IVec S4x1 32)

theorem row_start : rowDims.start j idx 0 = min (idx (ix2 (j 0) 0)).toInt.toNat 7 := by
  unfold GatherDims.start
  rw [dif_pos (show (0 : Fin 2) ∈ rowDims.startIndexMap from List.mem_singleton.mpr rfl)]
  have hs : rowDims.siIdx j ⟨List.idxOf (0 : Fin 2) rowDims.startIndexMap,
      List.idxOf_lt_length_iff.2 (List.mem_singleton.mpr rfl)⟩ = (ix2 (j 0) 0 : S4x1.Idx) := by
    funext k; refine Fin.ext ?_
    match k with
    | ⟨0, _⟩ => rfl
    | ⟨1, _⟩ => rfl
  rw [hs]
  rfl

theorem row_stay : rowDims.start j idx 1 = 0 := by
  unfold GatherDims.start
  rw [dif_neg (show (1 : Fin 2) ∉ rowDims.startIndexMap by decide)]

theorem row_batch (a : Fin 2) : rowDims.batchCoord j a = 0 := GatherDims.batchCoord_eq_zero _ _ _ List.not_mem_nil

theorem row_off0 : rowDims.offCoord j 0 = 0 :=
  GatherDims.offCoord_eq_zero _ _ _ (fun h => ((GatherDims.mem_sKept _ _).mp h).1 (List.mem_singleton.mpr rfl))

theorem row_off1 : rowDims.offCoord j 1 = (j 1).val := by rfl
end

theorem gather_row (x : FVec Ideal S8x192 .f32) (idx : IVec S4x1 32) (b : Fin 4) (c : Fin 192) (e : Fin 8)
    (h : idx (ix2 b 0) = BitVec.ofNat 32 e.val) : Host.gather rowDims x idx (ix2 b c) = x (ix2 e c) := by
  unfold Host.gather
  refine congrArg x ?_
  funext a
  refine Fin.ext ?_
  show rowDims.start (ix2 b c) idx a + rowDims.batchCoord (ix2 b c) a + rowDims.offCoord (ix2 b c) a = _
  rw [row_batch]
  match a with
  | ⟨0, _⟩ =>
    refine (congrArg₂ (fun u v => u + 0 + v) (row_start (ix2 b c) idx) (row_off0 (ix2 b c))).trans ?_
    show min (idx (ix2 b 0)).toInt.toNat 7 + 0 + 0 = e.val
    rw [h, word_place _ e.isLt]; omega
  | ⟨1, _⟩ =>
    refine (congrArg₂ (fun u v => u + 0 + v) (row_stay (ix2 b c) idx) (row_off1 (ix2 b c))).trans ?_
    show 0 + 0 + c.val = c.val
    omega

section
variable (j : S4x192x56x56.Idx) (idx : IVec S4x2 32)

theorem image_start0 : imageDims.start j idx 0 = min (idx (ix2 (j 0) 0)).toInt.toNat 3 := by
  unfold GatherDims.start
  rw [dif_pos (show (0 : Fin 5) ∈ imageDims.startIndexMap by decide)]
  have hs : imageDims.siIdx j ⟨List.idxOf (0 : Fin 5) imageDims.startIndexMap, by decide⟩ = (ix2 (j 0) 0 : S4x2.Idx) := by
    funext k; refine Fin.ext ?_
    match k with
    | ⟨0, _⟩ => rfl
    | ⟨1, _⟩ => rfl
  rw [hs]
  rfl

theorem image_start1 : imageDims.start j idx 1 = min (idx (ix2 (j 0) 1)).toInt.toNat 7 := by
  unfold GatherDims.start
  rw [dif_pos (show (1 : Fin 5) ∈ imageDims.startIndexMap by decide)]
  have hs : imageDims.siIdx j ⟨List.idxOf (1 : Fin 5) imageDims.startIndexMap, by decide⟩ = (ix2 (j 0) 1 : S4x2.Idx) := by
    funext k; refine Fin.ext ?_
    match k with
    | ⟨0, _⟩ => rfl
    | ⟨1, _⟩ => rfl
  rw [hs]
  rfl

theorem image_stay (a : Fin 5) (ha : a ∉ imageDims.startIndexMap) : imageDims.start j idx a = 0 := by
  unfold GatherDims.start
  rw [dif_neg ha]

theorem image_batch (a : Fin 5) : imageDims.batchCoord j a = 0 := GatherDims.batchCoord_eq_zero _ _ _ List.not_mem_nil

theorem image_off (a : Fin 5) (ha : a ∈ imageDims.collapsedSliceDims) : imageDims.offCoord j a = 0 :=
  GatherDims.offCoord_eq_zero _ _ _ (fun h => ((GatherDims.mem_sKept _ _).mp h).1 ha)

theorem image_off2 : imageDims.offCoord j 2 = (j 1).val := by rfl
theorem image_off3 : imageDims.offCoord j 3 = (j 2).val := by rfl
theorem image_off4 : imageDims.offCoord j 4 = (j 3).val := by rfl
end

theorem gather_image (x : FVec Ideal S4x8x192x56x56 .f32) (idx : IVec S4x2 32) (b : Fin 4) (c : Fin 192) (h w : Fin 56) (e : Fin 8)
    (h0 : idx (ix2 b 0) = BitVec.ofNat 32 b.val) (h1 : idx (ix2 b 1) = BitVec.ofNat 32 e.val) :
    Host.gather imageDims x idx (ix4 b c h w) = x (ix5 b e c h w) := by
  unfold Host.gather
  refine congrArg x ?_
  funext a
  refine Fin.ext ?_
  show imageDims.start (ix4 b c h w) idx a + imageDims.batchCoord (ix4 b c h w) a + imageDims.offCoord (ix4 b c h w) a = _
  rw [image_batch]
  match a with
  | ⟨0, _⟩ =>
    refine (congrArg₂ (fun u v => u + 0 + v) (image_start0 (ix4 b c h w) idx) (image_off (ix4 b c h w) 0 (by decide))).trans ?_
    show min (idx (ix2 b 0)).toInt.toNat 3 + 0 + 0 = b.val
    rw [h0, word_place _ (by omega)]; omega
  | ⟨1, _⟩ =>
    refine (congrArg₂ (fun u v => u + 0 + v) (image_start1 (ix4 b c h w) idx) (image_off (ix4 b c h w) 1 (by decide))).trans ?_
    show min (idx (ix2 b 1)).toInt.toNat 7 + 0 + 0 = e.val
    rw [h1, word_place _ e.isLt]; omega
  | ⟨2, _⟩ =>
    refine (congrArg₂ (fun u v => u + 0 + v) (image_stay (ix4 b c h w) idx 2 (by decide)) (image_off2 (ix4 b c h w))).trans ?_
    show 0 + 0 + c.val = c.val
    omega
  | ⟨3, _⟩ =>
    refine (congrArg₂ (fun u v => u + 0 + v) (image_stay (ix4 b c h w) idx 3 (by decide)) (image_off3 (ix4 b c h w))).trans ?_
    show 0 + 0 + h.val = h.val
    omega
  | ⟨4, _⟩ =>
    refine (congrArg₂ (fun u v => u + 0 + v) (image_stay (ix4 b c h w) idx 4 (by decide)) (image_off4 (ix4 b c h w))).trans ?_
    show 0 + 0 + w.val = w.val
    omega

end Cert.Moe

end
-- ==== Proof.RNorm.lean ====
/-
  The reference's group normalisation of the expert an image is sent to.
-/
module

public import proofs.«01_k».proof.Proof.RGather

@[expose] public section

set_option maxRecDepth 16384

noncomputable section

namespace Cert.Moe

open Cert.ReferenceIdeal Cert.ReferenceIdeal.Gen Cert.ReferenceIdeal.Value
open Idealize.ShloMosaic Idealize.ShloMosaic.TcCoe Idealize.ShloMosaic.Tactic
open scoped BigOperators

/-- An index counted from the end where it is negative. -/
def wrap (k : IVec S4 32) (n : BitVec 32) : IVec S4 32 :=
  select (cmpi .slt k (broadcastInDim S4 ![] bcast_S_S4 (constantI S_ 32 0#32)))
    (addi k (broadcastInDim S4 ![] bcast_S_S4 (constantI S_ 32 n))) k

theorem wrap_eq (k : IVec S4 32) (n : BitVec 32) (b : Fin 4) (e : Fin 8) (hk : k (ix1 b) = BitVec.ofNat 32 e.val) :
    wrap k n (ix1 b) = BitVec.ofNat 32 e.val := by
  unfold wrap
  pointwise
  rw [hk]
  have hs : ∀ e : Fin 8, IntOp.cmpi .slt (BitVec.ofNat 32 e.val) 0#32 = 0#1 := by decide
  rw [hs]
  rfl

/-- The channels of the expert each image is sent to, in groups. -/
def picked (y : FVec Ideal S4x8x192x56x56 .f32) (n k : IVec S4 32) : FVec Ideal S4x8x24x56x56 .f32 :=
  shapeCast _ (Host.gather imageDims y (concatenate S4x2 1 [⟨S4x1, (broadcastInDim S4x1 ![0] bcast_S4_S4x1_0 (wrap n 4#32))⟩,
    ⟨S4x1, (broadcastInDim S4x1 ![0] bcast_S4_S4x1_0 (wrap k 8#32))⟩] concatenates_S4x1_S4x1_S4x2_d1)) shapeCasts_S4x192x56x56_S4x8x24x56x56

/-- Each group less its mean. -/
def centred (v : FVec Ideal S4x8x24x56x56 .f32) : FVec Ideal S4x8x24x56x56 .f32 :=
  subf v (broadcastInDim S4x8x24x56x56 ![0, 1, 2, 3, 4] bcast_S4x8x1x1x1_S4x8x24x56x56_0_1_2_3_4
    (Host.divf (broadcastInDim S4x8x1x1x1 ![0, 1] bcast_S4x8_S4x8x1x1x1_0_1
      (Host.reduceAdd v (constant S_ .f32 0x00000000#32) reducesTo_S4x8x24x56x56_S4x8_d2_3_4 h_S_))
      (broadcastInDim S4x8x1x1x1 ![] bcast_S_S4x8x1x1x1 (constant S_ .f32 0x47930000#32))))

/-- A row of a table for each image. -/
def rowOf (A : FVec Ideal S8x192 .f32) (k : IVec S4 32) : FVec Ideal S4x192 .f32 :=
  Host.gather rowDims A (broadcastInDim S4x1 ![0] bcast_S4_S4x1_0 (wrap k 8#32))

/-- A row spread over the pixels. -/
def spreadRow (r : FVec Ideal S4x192 .f32) : FVec Ideal S4x192x56x56 .f32 :=
  broadcastInDim S4x192x56x56 ![0, 1, 2, 3] bcast_S4x192x1x1_S4x192x56x56_0_1_2_3
    (broadcastInDim S4x192x1x1 ![0, 1] bcast_S4x192_S4x192x1x1_0_1 r)

/-- Each group over its deviation. -/
def unit (u : FVec Ideal S4x8x24x56x56 .f32) : FVec Ideal S4x192x56x56 .f32 :=
  shapeCast _ (Host.divf u (broadcastInDim S4x8x24x56x56 ![0, 1, 2, 3, 4] bcast_S4x8x1x1x1_S4x8x24x56x56_0_1_2_3_4
    (Host.sqrt (addf (Host.divf (broadcastInDim S4x8x1x1x1 ![0, 1] bcast_S4x8_S4x8x1x1x1_0_1
      (Host.reduceAdd (mulf u u) (constant S_ .f32 0x00000000#32) reducesTo_S4x8x24x56x56_S4x8_d2_3_4 h_S_))
      (broadcastInDim S4x8x1x1x1 ![] bcast_S_S4x8x1x1x1 (constant S_ .f32 0x47930000#32)))
      (broadcastInDim S4x8x1x1x1 ![] bcast_S_S4x8x1x1x1 (constant S_ .f32 0x3727C5AC#32))))))
    shapeCasts_S4x8x24x56x56_S4x192x56x56

section
variable (V0 : Valuation τ sig (Elt Ideal))

theorem v143_form : res_main_v143 V0 = picked (res_main_v107 V0) (res_main_v114 V0) (res_main_v110 V0) := rfl
theorem v211_form : res_main_v211 V0 = picked (res_main_v107 V0) (res_main_v182 V0) (res_main_v178 V0) := rfl
theorem v149_form : res_main_v149 V0 = centred (res_main_v143 V0) := rfl
theorem v217_form : res_main_v217 V0 = centred (res_main_v211 V0) := rfl
theorem v166_form : res_main_v166 V0 = addf (mulf (unit (res_main_v149 V0)) (spreadRow (rowOf (va V0) (res_main_v110 V0))))
    (spreadRow (rowOf (vb V0) (res_main_v110 V0))) := rfl
theorem v234_form : res_main_v234 V0 = addf (mulf (unit (res_main_v217 V0)) (spreadRow (rowOf (va V0) (res_main_v178 V0))))
    (spreadRow (rowOf (vb V0) (res_main_v178 V0))) := rfl
end

theorem picked_eq (y : FVec Ideal S4x8x192x56x56 .f32) (n k : IVec S4 32) (b : Fin 4) (e : Fin 8) (g : Fin 8) (x : Fin 24) (h w : Fin 56)
    (hn : n (ix1 b) = BitVec.ofNat 32 b.val) (hk : k (ix1 b) = BitVec.ofNat 32 e.val) :
    picked y n k (ix5 b g x h w) = y (ix5 b e (chan g x) h w) := by
  unfold picked
  pointwise
  refine gather_image y _ b (chan g x) h w e ?_ ?_
  · pointwise
    exact wrap_eq n _ b ⟨b.val, by omega⟩ hn
  · pointwise
    exact wrap_eq k _ b e hk

theorem centred_eq (v : FVec Ideal S4x8x24x56x56 .f32) (b : Fin 4) (g : Fin 8) (x : Fin 24) (h w : Fin 56) :
    centred v (ix5 b g x h w) = v (ix5 b g x h w) - Ideal.div (∑ x, ∑ h, ∑ w, v (ix5 b g x h w)) ((75264 : ℝ) : EReal) := by
  unfold centred
  pointwise
  rw [word_count]

theorem rowOf_eq (A : FVec Ideal S8x192 .f32) (k : IVec S4 32) (b : Fin 4) (c : Fin 192) (e : Fin 8) (hk : k (ix1 b) = BitVec.ofNat 32 e.val) :
    rowOf A k (ix2 b c) = A (ix2 e c) := by
  unfold rowOf
  refine gather_row A _ b c e ?_
  pointwise
  exact wrap_eq k _ b e hk

theorem spreadRow_eq (r : FVec Ideal S4x192 .f32) (b : Fin 4) (c : Fin 192) (h w : Fin 56) : spreadRow r (ix4 b c h w) = r (ix2 b c) := by
  unfold spreadRow
  pointwise

/-- Pixel `(h, w)`. -/
abbrev pix (h w : Fin 56) : Fin 3136 := cell (by rfl : 56 * 56 = 3136) h w

theorem group_sum (f : Fin 192 → Fin 3136 → ℝ) (g : Fin 8) :
    ∑ x : Fin 24, ∑ h : Fin 56, ∑ w : Fin 56, (f (chan g x) (pix h w) : EReal) = (total f g : EReal) := by
  rw [total_eq, coe_sum]
  refine Finset.sum_congr rfl fun x _ => ?_
  rw [coe_sum]
  exact sum_cells _ fun p => (f (chan g x) p : EReal)

theorem centred_real (v : FVec Ideal S4x8x24x56x56 .f32) (b : Fin 4) (y : Fin 192 → Fin 3136 → ℝ)
    (hv : ∀ g x h w, v (ix5 b g x h w) = (y (chan g x) (pix h w) : EReal)) (g : Fin 8) (x : Fin 24) (h w : Fin 56) :
    centred v (ix5 b g x h w) = ((y (chan g x) (pix h w) - gmean y g : ℝ) : EReal) := by
  rw [centred_eq]
  simp only [hv]
  rw [group_sum, div_real _ _ (by norm_num), ← EReal.coe_sub]
  rfl

theorem unit_real (u : FVec Ideal S4x8x24x56x56 .f32) (b : Fin 4) (y : Fin 192 → Fin 3136 → ℝ)
    (hu : ∀ g x h w, u (ix5 b g x h w) = ((y (chan g x) (pix h w) - gmean y g : ℝ) : EReal)) (c : Fin 192) (h w : Fin 56) :
    unit u (ix4 b c h w) = (((y c (pix h w) - gmean y (grp c)) * (Real.sqrt (gvar y (grp c) + tiny))⁻¹ : ℝ) : EReal) := by
  have hc : chan (grp c) ⟨c.val % 24, by omega⟩ = c := Fin.ext (by simp only [cell]; omega)
  have hs : ∑ x : Fin 24, ∑ h : Fin 56, ∑ w : Fin 56, (u (ix5 b (grp c) x h w) * u (ix5 b (grp c) x h w) : EReal)
      = ((gvar y (grp c) * 75264 : ℝ) : EReal) := by
    simp only [hu, ← EReal.coe_mul]
    refine (Finset.sum_congr rfl fun x _ => ?_).trans (group_sum (fun c' p => (y c' p - gmean y (grp c)) * (y c' p - gmean y (grp c))) (grp c))|>.trans ?_
    · rfl
    · rw [gvar_eq, total_eq]
      congr 1
      field_simp
  have h1 : unit u (ix4 b c h w) = Ideal.div (u (ix5 b (grp c) ⟨c.val % 24, by omega⟩ h w)) (Ideal.sqrt
      (Ideal.div (∑ x : Fin 24, ∑ h : Fin 56, ∑ w : Fin 56, (u (ix5 b (grp c) x h w) * u (ix5 b (grp c) x h w) : EReal))
        (Ideal.ofBits .f32 1200816128#32) + Ideal.ofBits .f32 925353388#32)) := by
    unfold unit
    pointwise
  rw [h1, hs, hu, hc, word_count, word_tiny, div_real _ _ (by norm_num), ← EReal.coe_add, mul_div_assoc, div_self (by norm_num), mul_one,
    sqrt_real _ (gvar_tiny y _).le, div_real _ _ (Real.sqrt_pos.2 (gvar_tiny y _)).ne', div_eq_mul_inv]

/-- The expert's normalised channels, from its convolution. -/
theorem branch_real (y : FVec Ideal S4x8x192x56x56 .f32) (n k : IVec S4 32) (A B : FVec Ideal S8x192 .f32) (b : Fin 4) (e : Fin 8)
    (hn : n (ix1 b) = BitVec.ofNat 32 b.val) (hk : k (ix1 b) = BitVec.ofNat 32 e.val) (f : Fin 192 → Fin 3136 → ℝ)
    (hy : ∀ c p, y (ix5 b e c (prow p) (pcol p)) = (f c p : EReal)) (hA : AllReal A) (c : Fin 192) (p : Fin 3136) :
    addf (mulf (unit (centred (picked y n k))) (spreadRow (rowOf A k))) (spreadRow (rowOf B k)) (ix4 b c (prow p) (pcol p))
      = normed f (fun c => (tab A e c).toReal) (tab B e) c p := by
  have hp : ∀ h w, prow (pix h w) = h ∧ pcol (pix h w) = w := fun h w =>
    ⟨Fin.ext (by simp only [cell]; omega), Fin.ext (by simp only [cell]; omega)⟩
  have hq : pix (prow p) (pcol p) = p := Fin.ext (by simp only [cell]; omega)
  have hv : ∀ g x h w, picked y n k (ix5 b g x h w) = (f (chan g x) (pix h w) : EReal) := fun g x h w => by
    rw [picked_eq y n k b e g x h w hn hk, ← hy, (hp h w).1, (hp h w).2]
  have h1 := unit_real (centred (picked y n k)) b f (centred_real _ b f hv) c (prow p) (pcol p)
  rw [hq] at h1
  pointwise
  rw [h1, spreadRow_eq, spreadRow_eq, rowOf_eq A k b c e hk, rowOf_eq B k b c e hk, hA, ← EReal.coe_mul]
  rfl

end Cert.Moe

end
-- ==== Proof.RResult.lean ====
/-
  The reference's result array.
-/
module

public import proofs.«01_k».proof.Proof.RNorm

@[expose] public section

set_option maxRecDepth 16384

noncomputable section

namespace Cert.Moe

open Cert.ReferenceIdeal Cert.ReferenceIdeal.Gen Cert.ReferenceIdeal.Value
open Idealize.ShloMosaic Idealize.ShloMosaic.TcCoe Idealize.ShloMosaic.Tactic
open Idealize.SL.Sem Idealize.ShloMosaic.StableHlo
open scoped BigOperators

/-- An array times its logistic. -/
def gated (v : FVec Ideal S4x192x56x56 .f32) : FVec Ideal S4x192x56x56 .f32 :=
  mulf v (Host.divf (broadcastInDim S4x192x56x56 ![] bcast_S_S4x192x56x56 (constant S_ .f32 0x3F800000#32))
    (addf (broadcastInDim S4x192x56x56 ![] bcast_S_S4x192x56x56 (constant S_ .f32 0x3F800000#32)) (Host.exp (Host.negf v))))

theorem gated_eq (v : FVec Ideal S4x192x56x56 .f32) (j : S4x192x56x56.Idx) : gated v j = silu (v j) := by
  unfold gated silu
  pointwise
  rfl

/-- Two arrays weighted image by image and summed, each image's pixels in a row. -/
def mixed (u v : FVec Ideal S4x192x56x56 .f32) (s : FVec Ideal S4x2 .f32) : FVec Ideal S4x192x3136 .f32 :=
  shapeCast _ (addf (addf (broadcastInDim S4x192x56x56 ![] bcast_S_S4x192x56x56 (constant S_ .f32 0x00000000#32))
    (mulf (gated u) (broadcastInDim S4x192x56x56 ![0, 1, 2, 3] bcast_S4x1x1x1_S4x192x56x56_0_1_2_3
      (shapeCast _ (shapeCast _ (extractStridedSlice S4x1 ![0, 0] s slices_S4x2_S4x1_0_0) shapeCasts_S4x1_S4) shapeCasts_S4_S4x1x1x1))))
    (mulf (gated v) (broadcastInDim S4x192x56x56 ![0, 1, 2, 3] bcast_S4x1x1x1_S4x192x56x56_0_1_2_3
      (shapeCast _ (shapeCast _ (extractStridedSlice S4x1 ![0, 1] s slices_S4x2_S4x1_0_1) shapeCasts_S4x1_S4) shapeCasts_S4_S4x1x1x1))))
    shapeCasts_S4x192x56x56_S4x192x3136

theorem mixed_eq (u v : FVec Ideal S4x192x56x56 .f32) (s : FVec Ideal S4x2 .f32) (b : Fin 4) (c : Fin 192) (p : Fin 3136) :
    mixed u v s (ix3 b c p) = s (ix2 b 0) * silu (u (ix4 b c (prow p) (pcol p))) + s (ix2 b 1) * silu (v (ix4 b c (prow p) (pcol p))) := by
  have hu : gated u = fun j => silu (u j) := funext fun j => gated_eq u j
  have hv : gated v = fun j => silu (v j) := funext fun j => gated_eq v j
  unfold mixed
  rw [hu, hv]
  pointwise
  rw [mul_comm, mul_comm (silu (v _))]

section
variable (V0 : Valuation τ sig (Elt Ideal)) (hx : AllReal (vx V0)) (hw : AllReal (vw V0)) (ha : AllReal (va V0))
include hx hw ha

theorem v166_eq (b : Fin 4) (c : Fin 192) (p : Fin 3136) : res_main_v166 V0 (ix4 b c (prow p) (pcol p))
    = branch (pixels (vx V0) b) (tab (vw V0)) (tab (va V0)) (tab (vb V0)) (rplace V0 b 0) c p := by
  rw [v166_form, v149_form, v143_form]
  exact branch_real (res_main_v107 V0) _ _ (va V0) (vb V0) b (rplace V0 b 0) rfl (v110_eq V0 b) _
    (fun c p => v107_eq V0 hx hw b _ c p) ha c p

theorem v234_eq (b : Fin 4) (c : Fin 192) (p : Fin 3136) : res_main_v234 V0 (ix4 b c (prow p) (pcol p))
    = branch (pixels (vx V0) b) (tab (vw V0)) (tab (va V0)) (tab (vb V0)) (rplace V0 b 1) c p := by
  rw [v234_form, v217_form, v211_form]
  exact branch_real (res_main_v107 V0) _ _ (va V0) (vb V0) b (rplace V0 b 1) rfl (v178_eq V0 b) _
    (fun c p => v107_eq V0 hx hw b _ c p) ha c p

theorem mixed_result : mixed (res_main_v166 V0) (res_main_v234 V0) (res_main_v49 V0) = result (vx V0) (vr V0) (vw V0) (va V0) (vb V0) := by
  funext j
  obtain ⟨b, c, p, rfl⟩ : ∃ (b : Fin 4) (c : Fin 192) (p : Fin 3136), j = ix3 b c p := ⟨j 0, j 1, j 2, by funext a; fin_cases a <;> rfl⟩
  rw [mixed_eq, v166_eq V0 hx hw ha, v234_eq V0 hx hw ha, v49_eq, v49_eq]
  rfl
end

/-- Every run of the reference ends with the result array at `result` of its arguments. -/
theorem reference_run (m : (ℓ : Loc nD τ sig) → Buf (Elt Ideal) ℓ) (ρ : Dev nD → PrngReg)
    (hx : ∀ c : Dev nD, AllReal (m ((c.tc : Thread nD τ).loc main_arg0))) (hw : ∀ c : Dev nD, AllReal (m ((c.tc : Thread nD τ).loc main_arg2)))
    (ha : ∀ c : Dev nD, AllReal (m ((c.tc : Thread nD τ).loc main_arg3))) :
    θ_run defs (onTc (τ := τ) (main (F := Ideal))) ⟨m, fun _ => 0, ρ⟩ fun r => ∀ c : Dev nD,
      r.2.mem ((c.tc : Thread nD τ).loc main_v245) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hr : ∀ c : Dev nD, mixed (res_main_v166 (launchContents m c)) (res_main_v234 (launchContents m c)) (res_main_v49 (launchContents m c))
      = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
    fun c => mixed_result (launchContents m c) (hx c) (hw c) (ha c)
  exact (θ_run defs _ _).mono (fun r h c => ⟨(h c).1.trans (hr c), (h c).2⟩) (run m ρ)

end Cert.Moe

end
-- ==== Proof.Finite.lean ====
/-
  The precondition read as: every entry of the three arrays is a real number.
-/
module

public import proofs.«01_k».proof.Proof.Args
public import proofs.«01_k».proof.Proof.Gen.Pre_finite

@[expose] public section

set_option maxRecDepth 16384

noncomputable section

namespace Cert.Moe

open Idealize.ShloMosaic

theorem word_top : Ideal.ofBits .f32 0x7F800000#32 = (⊤ : EReal) := by
  simp [Ideal.ofBits, Ideal.ieee]

theorem real_of_below {x : EReal} (h : Ideal.cmp .olt (max x (-x)) (Ideal.ofBits .f32 0x7F800000#32) = 1#1) : x = (x.toReal : EReal) := by
  rw [word_top] at h
  have h' : max x (-x) < ⊤ := by
    by_contra g
    simp [Ideal.cmp, g] at h
  refine (EReal.coe_toReal ?_ ?_).symm
  · rintro rfl; simp at h'
  · rintro rfl; simp at h'

section
variable [Cert.Pre_finite.Facts] (x : FVec Ideal Cert.Pre_finite.S4x192x56x56 .f32) (r : FVec Ideal Cert.Pre_finite.S8x384 .f32)
  (w : FVec Ideal Cert.Pre_finite.S1536x216 .f32) (a b : FVec Ideal Cert.Pre_finite.S8x192 .f32)

theorem finite_image (h : (Cert.Pre_finite.fn (F := Ideal) x r w a b).1 = fun _ => 1#1) : AllReal x := fun i => real_of_below (congrFun h i)
theorem finite_weights (h : (Cert.Pre_finite.fn (F := Ideal) x r w a b).2.1 = fun _ => 1#1) : AllReal w := fun i => real_of_below (congrFun h i)
theorem finite_scale (h : (Cert.Pre_finite.fn (F := Ideal) x r w a b).2.2 = fun _ => 1#1) : AllReal a := fun i => real_of_below (congrFun h i)
end

end Cert.Moe

end
-- ==== Proof.WBody.lean ====
/-
  The whole kernel's body run, as in Body.lean: the program is the same, its host code in front of it is not.
-/
module

public import proofs.«01_k».proof.Proof.Body
public import proofs.«01_k».proof.Proof.Gen.WholeIdeal.Frame
public import proofs.«01_k».proof.Proof.Gen.WholeIdeal.Skeleton

@[expose] public section

set_option maxRecDepth 16384

noncomputable section

namespace Cert.Moe.Whole

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body's run: from the five input blocks, the result's buffer and the two scratch buffers it comes to its
    return with the inputs as they were, and each written buffer at the pieces the run finds. -/
def bodyRun (H : Chosen F) (c : Dev nD) (i : grid0.Coords)
    (A1 : Memref sig .tc .vmem S1x192x3136 .f32) (h1 : A1.IsWhole) (A2 : Memref sig .tc .vmem S8x384 .f32) (h2 : A2.IsWhole)
    (A3 : Memref sig .tc .vmem S1536x216 .bf16) (h3 : A3.IsWhole) (A4 : Memref sig .tc .vmem S192x8 .f32) (h4 : A4.IsWhole)
    (A5 : Memref sig .tc .vmem S192x8 .f32) (h5 : A5.IsWhole) (A6 : Memref sig .tc .vmem S1x192x3136 .f32) (h6 : A6.IsWhole)
    (A7 : Memref sig .tc .vmem S24x3250 .f32) (h7 : A7.IsWhole) (A8 : Memref sig .tc .vmem S216x3136 .bf16) (h8 : A8.IsWhole)
    (x0 : Vec F S1x192x3136 .f32) (x1 : Vec F S8x384 .f32) (x2 : Vec F S1536x216 .bf16) (x3 : Vec F S192x8 .f32) (x4 : Vec F S192x8 .f32) :
    { L : List (View.Piece (Elt F) S1x192x3136 .f32) //
      ∀ (E : Set ℕ) (K : PUnit → sProp 𝕄),
        iprop(owns (c : Thread nD τ) A1 fullShare x0 ∗ owns (c : Thread nD τ) A2 fullShare x1 ∗ owns (c : Thread nD τ) A3 fullShare x2
            ∗ owns (c : Thread nD τ) A4 fullShare x3 ∗ owns (c : Thread nD τ) A5 fullShare x4 ∗ (∃ d, owns (c : Thread nD τ) A6 fullShare d)
            ∗ (∃ d, owns (c : Thread nD τ) A7 fullShare d) ∗ (∃ d, owns (c : Thread nD τ) A8 fullShare d)
            ∗ (iprop(owns (c : Thread nD τ) A1 fullShare x0 ∗ owns (c : Thread nD τ) A2 fullShare x1 ∗ owns (c : Thread nD τ) A3 fullShare x2
                ∗ owns (c : Thread nD τ) A4 fullShare x3 ∗ owns (c : Thread nD τ) A5 fullShare x4
                ∗ (∃ f, A6.view.loc (c : Thread nD τ) ↦[A6.view.set]{fullShare} A6.view.writes (Elt F) f L)
                ∗ (∃ d, owns (c : Thread nD τ) A7 fullShare d) ∗ (∃ d, owns (c : Thread nD τ) A8 fullShare d)) -∗ K ⟨⟩))
          ⊢ wp frame (wpE (defs₀ (F := F)) Variants.none c none) E
              (cc0__moe_kernel i A1 h1 A2 h2 A3 h3 A4 h4 A5 h5 A6 h6 A7 h7 A8 h8) K } := by
  refine ⟨?_, fun E K => ?run⟩
  case run =>
    simp only [cc0__moe_kernel_eq_skeleton]; unfold cc0__moe_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := h1.eq_unread hf0; obtain rfl := h2.eq_unread hf1; obtain rfl := h3.eq_unread hf2
    obtain rfl := h4.eq_unread hf3; obtain rfl := h5.eq_unread hf4
    sl_exec (disch := first | (guard_target = k0_chk1 _; exact H.first _ _) | (guard_target = k0_chk2 _; exact H.second _ _))
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]; · iexists _; iexact H5
    isplitl [H6]
    · iexists _; iexists _; isplitr
      swap; · iexact H6
      ipureintro; rfl
    iexists _; iexists _; isplitr
    swap; · iexact H7
    ipureintro; rfl

end Cert.Moe.Whole

end
-- ==== Proof.WFrame.lean ====
/-
  The whole kernel's launch from its body's run (WBody.lean), as in Frame.lean.
-/
module

public import proofs.«01_k».proof.Proof.WBody
public import Idealize.ShloMosaic.Lib.Pipeline.Value
public import Idealize.ShloMosaic.Lib.Claim

@[expose] public section

set_option maxRecDepth 16384

noncomputable section

namespace Cert.Moe.Whole

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (H : Chosen F) (m : (ℓ : Loc nD τ sig) → Buf (Elt F) ℓ) (ρ : Dev nD → PrngReg)

/-- The body's run at point `t` of core `c`, on the point's buffers and input blocks. -/
abbrev runAt (c : Dev nD) (t : Fin cfg0.N) :=
  bodyRun H c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5))
    (hstage0_5 ((cfg0.slots t 5).cast nbuf0_5)) (Memref.whole cc0_scratch0) (Memref.isWhole_whole _)
    (Memref.whole cc0_scratch1) (Memref.isWhole_whole _)
    (iblk m c 0 t) (iblk m c 1 t) (iblk m c 2 t) (iblk m c 3 t) (iblk m c 4 t)

/-- What the body leaves in the result's block at point `t`. -/
def outAt (c : Dev nD) (t : Fin cfg0.N) : Vec F S1x192x3136 .f32 := View.canon (runAt H m c t).1

/-- The one store of the body covers the block. -/
theorem runAt_cover (c : Dev nD) (t : Fin cfg0.N) (y : S1x192x3136.Idx) : ∃ pc ∈ (runAt H m c t).1, y ∈ pc.1.set :=
  View.cover_of_tiledL (runAt H m c t).1 S1x192x3136.size (by sl_kernel_rfl) y

/-- The proof data: arrays as the region finds them, inputs left in place, the result's block at `outAt`. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt H m c t
  Φ _ := Pipeline.ΦA spec0 c
  q _ := fullShare
  owed _ := 0

theorem pdat_A (c : Dev nD) (w : Fin cfg0.W) : (pdat H m 0 c).A w = V m c (Pipeline.arrRef spec0 w) := by dsimp only [pdat]
theorem after_0 (c : Dev nD) (t : Fin cfg0.N) : (pdat H m 0 c).after 0 t = iblk m c 0 t := by dsimp only [pdat]
theorem after_1 (c : Dev nD) (t : Fin cfg0.N) : (pdat H m 0 c).after 1 t = iblk m c 1 t := by dsimp only [pdat]
theorem after_2 (c : Dev nD) (t : Fin cfg0.N) : (pdat H m 0 c).after 2 t = iblk m c 2 t := by dsimp only [pdat]
theorem after_3 (c : Dev nD) (t : Fin cfg0.N) : (pdat H m 0 c).after 3 t = iblk m c 3 t := by dsimp only [pdat]
theorem after_4 (c : Dev nD) (t : Fin cfg0.N) : (pdat H m 0 c).after 4 t = iblk m c 4 t := by dsimp only [pdat]
theorem after_5 (c : Dev nD) (t : Fin cfg0.N) : (pdat H m 0 c).after 5 t = outAt H m c t := by dsimp only [pdat]

theorem before_0 (c : Dev nD) (t : Fin cfg0.N) (d) : (pdat H m 0 c).before 0 t d = iblk m c 0 t :=
  before0_0_of m _ (pdat_A H m c 0) (after_0 H m c) t d
theorem before_1 (c : Dev nD) (t : Fin cfg0.N) (d) : (pdat H m 0 c).before 1 t d = iblk m c 1 t :=
  before0_1_of m _ (pdat_A H m c 1) (after_1 H m c) t d
theorem before_2 (c : Dev nD) (t : Fin cfg0.N) (d) : (pdat H m 0 c).before 2 t d = iblk m c 2 t :=
  before0_2_of m _ (pdat_A H m c 2) (after_2 H m c) t d
theorem before_3 (c : Dev nD) (t : Fin cfg0.N) (d) : (pdat H m 0 c).before 3 t d = iblk m c 3 t :=
  before0_3_of m _ (pdat_A H m c 3) (after_3 H m c) t d
theorem before_4 (c : Dev nD) (t : Fin cfg0.N) (d) : (pdat H m 0 c).before 4 t d = iblk m c 4 t :=
  before0_4_of m _ (pdat_A H m c 4) (after_4 H m c) t d

/-- The class's invariant, its two scratch buffers as memrefs owned at some contents. -/
theorem inv_eq (c : Dev nD) : (Pipeline.ΦA spec0 c : sProp 𝕄)
    = iprop(iprop((∃ d, owns (c : Thread nD τ) (Memref.whole cc0_scratch0 : Memref sig .tc .vmem S24x3250 .f32) fullShare d)
        ∗ (∃ d, owns (c : Thread nD τ) (Memref.whole cc0_scratch1 : Memref sig .tc .vmem S216x3136 .bf16) fullShare d)) ∗ (∃ r, prngReg c r)) := by
  unfold Pipeline.ΦA; rw [scopedRest0_eq]; simp only [owns_whole]; try rfl

/-- What the body is called with at a point, window by window. -/
def atEntry (c : Dev nD) (t : Fin cfg0.N) : sProp 𝕄 :=
  iprop((pdat H m 0 c).Φ t.castSucc ∗ (pdat H m 0 c).owesAt () t.castSucc
    ∗ (∃ d, owns (c : Thread nD τ) (st0_0 t) fullShare ((pdat H m 0 c).before 0 t d))
    ∗ (∃ d, owns (c : Thread nD τ) (st0_1 t) fullShare ((pdat H m 0 c).before 1 t d))
    ∗ (∃ d, owns (c : Thread nD τ) (st0_2 t) fullShare ((pdat H m 0 c).before 2 t d))
    ∗ (∃ d, owns (c : Thread nD τ) (st0_3 t) fullShare ((pdat H m 0 c).before 3 t d))
    ∗ (∃ d, owns (c : Thread nD τ) (st0_4 t) fullShare ((pdat H m 0 c).before 4 t d))
    ∗ (∃ d, owns (c : Thread nD τ) (st0_5 t) fullShare ((pdat H m 0 c).before 5 t d)))

/-- What it hands back. -/
def atExit (c : Dev nD) (t : Fin cfg0.N) : sProp 𝕄 :=
  iprop((pdat H m 0 c).Φ t.succ ∗ (pdat H m 0 c).owesAt () t.succ
    ∗ owns (c : Thread nD τ) (st0_0 t) fullShare ((pdat H m 0 c).after 0 t)
    ∗ owns (c : Thread nD τ) (st0_1 t) fullShare ((pdat H m 0 c).after 1 t)
    ∗ owns (c : Thread nD τ) (st0_2 t) fullShare ((pdat H m 0 c).after 2 t)
    ∗ owns (c : Thread nD τ) (st0_3 t) fullShare ((pdat H m 0 c).after 3 t)
    ∗ owns (c : Thread nD τ) (st0_4 t) fullShare ((pdat H m 0 c).after 4 t)
    ∗ owns (c : Thread nD τ) (st0_5 t) fullShare ((pdat H m 0 c).after 5 t))

set_option maxHeartbeats 800000 in
/-- The body at any point, from the run. -/
theorem point_sound (c : Dev nD) (t : Fin cfg0.N) :
    atEntry H m c t ⊢ wp frame (wpE (defs₀ (F := F)) Variants.none c none) Set.univ (bodyAt0 t) (fun _ => atExit H m c t) := by
  unfold atEntry atExit bodyAt0
  simp only [before_0, before_1, before_2, before_3, before_4]
  rw [show (pdat H m 0 c).Φ t.succ = (pdat H m 0 c).Φ t.castSucc from rfl,
    show (pdat H m 0 c).owesAt () t.succ = (pdat H m 0 c).owesAt () t.castSucc from rfl,
    after_0, after_1, after_2, after_3, after_4, after_5]
  rw [show (pdat H m 0 c).Φ t.castSucc = Pipeline.ΦA spec0 c from rfl, inv_eq]
  iintro ⟨⟨⟨S0, S1⟩, Hg⟩, Ho, ⟨%d0, H0⟩, ⟨%d1, H1⟩, ⟨%d2, H2⟩, ⟨%d3, H3⟩, ⟨%d4, H4⟩, ⟨%d5, H5⟩⟩
  iapply ((runAt H m c t).2 Set.univ _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  iintro ⟨H0, H1, H2, H3, H4, ⟨%e5, H5⟩, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (runAt_cover H m c t)

theorem row_eq (t : Fin cfg0.N) : defs₀ (F := F) .tc cfg0.body (cfg0.bodyArgs t (cfg0.slots t)) = bodyAt0 t := by
  unfold defs₀; rw [Defs.onTc_tc]

theorem obligation (c : Dev nD) : BodyObligation (pdat (F := F) H m 0 c) (defs₀ (F := F)) Variants.none () Set.univ := fun t => by
  rw [bigSep_W0, bigSep_W0, row_eq]
  exact triple_restated (point_sound H m c t) rfl .rfl fun _ => .rfl

set_option backward.isDefEq.respectTransparency.types false in
/-- The launch: the pipeline's arrays at what the proof data compute, every counter at zero. -/
theorem launch_quiescent : θ_run defs (onTc (τ := τ) (main (F := F))) (s₀ m ρ)
    (fun r => (Pipeline.FramePost cfgs (pdat H m) 0 (V m)) r ∧ r.2.sem = fun _ => 0) :=
  Pipeline.θ_run_frame (Q' := _) cfgs (pdat H m) (0 : Fin 1) launch0 defs₀ Variants.none m ρ main
    (hbody := fun c => (obligation H m c).loose) (hshare := fun c => (pdat H m 0 c).share_full fun _ => rfl)
    (howed := fun _ _ => rfl) (V := V m) (hmain := hmain m Variants.none) (hA := pdat_A H m) (hΦ := fun _ _ => rfl)

/-- The result array after the run. -/
theorem whole_run : θ_run defs (onTc (τ := τ) (main (F := F))) ⟨m, fun _ => 0, ρ⟩ (fun r => ∀ c : Dev nD,
      r.2.mem ((c.tc : Thread nD τ).loc main_v273) = (pdat H m 0 c).arrAt 5 cfg0.N) :=
  (θ_run defs _ _).mono (fun r h c => (h.1 c).1 5) (launch_quiescent H m ρ)

end Cert.Moe.Whole

end
-- ==== Proof.WHost.lean ====
/-
  The weights that the whole kernel's host code hands to the call, at the counterexample: expert 0's are all zero. The
  first of the twelve writes replaces the only columns of expert 0 that are not zero by columns of expert 1 that are,
  and no later one touches expert 0.
-/
module

public import proofs.«01_k».proof.Proof.Args
public import proofs.«01_k».proof.Proof.Gen.WholeIdeal.Frame
public import Idealize.ShloMosaic.Lib.Routing.OpsOrder
public import Idealize.ShloMosaic.Lib.Routing.OpsSet
public import Idealize.ShloMosaic.Lib.Claim

@[expose] public section

set_option maxRecDepth 16384

noncomputable section

namespace Cert.Moe.Whole

open Cert.WholeIdeal Cert.WholeIdeal.Gen
open Idealize.ShloMosaic Idealize.ShloMosaic.TcCoe Idealize.ShloMosaic.Tactic

/-! ## Arrays of real numbers -/

theorem real_transpose {s t : Shape} {e : FTy} (p : List (Fin s.rank)) (x : FVec Ideal s e) (h : s.Transposes p t) (hx : AllReal x) :
    AllReal (transpose t p x h) := fun _ => hx _
theorem real_cast {s t : Shape} {e : FTy} (x : FVec Ideal s e) (h : s.ShapeCasts t) (hx : AllReal x) : AllReal (shapeCast t x h) := fun _ => hx _

/-! ## One write -/

/-- Update `k` lands at `i` when its row of numbers names the first and the last axis of `i` and its own second
    coordinate is the middle one. -/
theorem lands (idx : IVec S24x2 32) (k : S24x192.Idx) (i : S8x192x216.Idx) :
    scatter_S8x192x216_S24x2_S24x192_1_02_02_1.resultIdx? k idx = some i
      ↔ (idx (ix2 (k 0) 0)).toInt = ((i 0).val : Int) ∧ (k 1).val = (i 1).val ∧ (idx (ix2 (k 0) 1)).toInt = ((i 2).val : Int) := by
  have s0 : scatter_S8x192x216_S24x2_S24x192_1_02_02_1.start k idx 0 = (idx (ix2 (k 0) 0)).toInt := by
    unfold ScatterDims.start
    rw [dif_pos (by decide)]
    refine congrArg (fun q => (idx q).toInt) ?_
    funext b; fin_cases b <;> rfl
  have s1 : scatter_S8x192x216_S24x2_S24x192_1_02_02_1.start k idx 1 = 0 := by
    unfold ScatterDims.start
    rw [dif_neg (by decide)]
  have s2 : scatter_S8x192x216_S24x2_S24x192_1_02_02_1.start k idx 2 = (idx (ix2 (k 0) 1)).toInt := by
    unfold ScatterDims.start
    rw [dif_pos (by decide)]
    refine congrArg (fun q => (idx q).toInt) ?_
    funext b; fin_cases b <;> rfl
  have w0 : scatter_S8x192x216_S24x2_S24x192_1_02_02_1.window k 0 = 0 := by
    unfold ScatterDims.window
    rw [dif_neg (by decide)]
  have w1 : scatter_S8x192x216_S24x2_S24x192_1_02_02_1.window k 1 = (k 1).val := by
    unfold ScatterDims.window
    rw [dif_pos (by decide)]
    rfl
  have w2 : scatter_S8x192x216_S24x2_S24x192_1_02_02_1.window k 2 = 0 := by
    unfold ScatterDims.window
    rw [dif_neg (by decide)]
  rw [Routing.resultIdx?_eq_some]
  constructor
  · intro h
    have h0 := h 0; have h1 := h 1; have h2 := h 2
    rw [s0, w0] at h0; rw [s1, w1] at h1; rw [s2, w2] at h2
    refine ⟨by omega, by omega, by omega⟩
  · rintro ⟨h0, h1, h2⟩ a
    have h0' : (idx (ix2 (k 0) 0)).toInt + ((0 : Nat) : Int) = ((i 0).val : Int) := by omega
    have h1' : (0 : Int) + ((k 1).val : Int) = ((i 1).val : Int) := by omega
    have h2' : (idx (ix2 (k 0) 1)).toInt + ((0 : Nat) : Int) = ((i 2).val : Int) := by omega
    fin_cases a
    · exact (congrArg₂ (fun (p : Int) (q : Nat) => p + (q : Int)) s0 w0).trans h0'
    · exact (congrArg₂ (fun (p : Int) (q : Nat) => p + (q : Int)) s1 w1).trans h1'
    · exact (congrArg₂ (fun (p : Int) (q : Nat) => p + (q : Int)) s2 w2).trans h2'

theorem pair_left (a b : IVec S24x1 32) (j : Fin 24) :
    concatenate S24x2 1 [⟨S24x1, a⟩, ⟨S24x1, b⟩] concatenates_S24x1_S24x1_S24x2_d1 (ix2 j 0) = a (ix2 j 0) := by
  pointwise
theorem pair_right (a b : IVec S24x1 32) (j : Fin 24) :
    concatenate S24x2 1 [⟨S24x1, a⟩, ⟨S24x1, b⟩] concatenates_S24x1_S24x1_S24x2_d1 (ix2 j 1) = b (ix2 j 0) := by
  pointwise

/-- Every weight is real, and expert 0's are zero. -/
def Kept (x : FVec Ideal S8x192x216 .f32) : Prop := AllReal x ∧ ∀ o k, x (ix3 0 o k) = 0

/-- One write of a row of columns. -/
abbrev put (x : FVec Ideal S8x192x216 .f32) (a b : IVec S24x1 32) (u : FVec Ideal S24x192 .f32) : FVec Ideal S8x192x216 .f32 :=
  Host.scatter scatter_S8x192x216_S24x2_S24x192_1_02_02_1 (fun _ b => b) x
    (concatenate S24x2 1 [⟨S24x1, a⟩, ⟨S24x1, b⟩] concatenates_S24x1_S24x1_S24x2_d1) u

theorem real_put (x : FVec Ideal S8x192x216 .f32) (a b : IVec S24x1 32) (u : FVec Ideal S24x192 .f32) (hx : AllReal x) (hu : AllReal u) :
    AllReal (put x a b u) :=
  Routing.scatter_forall _ _ (fun y : EReal => y = (y.toReal : EReal)) (fun _ _ _ h => h) x _ u hx hu

theorem kept_put (x : FVec Ideal S8x192x216 .f32) (a b : IVec S24x1 32) (u : FVec Ideal S24x192 .f32) (ha : ∀ j, (a (ix2 j 0)).toInt ≠ 0)
    (hu : AllReal u) (hx : Kept x) : Kept (put x a b u) := by
  refine ⟨real_put x a b u hx.1 hu, fun o k => (Routing.scatter_set_miss _ x _ u _ fun q hq => ?_).trans (hx.2 o k)⟩
  have h := ((lands _ q _).1 hq).1
  exact ha (q 0) ((congrArg BitVec.toInt (pair_left a b (q 0))).symm.trans h)

/-- The first write: where expert 0's weights are not zero, it writes zeros. -/
theorem first_put (x : FVec Ideal S8x192x216 .f32) (a b : IVec S24x1 32) (u : FVec Ideal S24x192 .f32) (ha : ∀ j, (a (ix2 j 0)).toInt = 0)
    (hx : AllReal x) (hu : ∀ i, u i = 0)
    (hb : ∀ (o : Fin 192) (k : Fin 216), x (ix3 0 o k) = 0 ∨ ∃ j, (b (ix2 j 0)).toInt = (k.val : Int)) : Kept (put x a b u) := by
  refine ⟨real_put x a b u hx fun i => by rw [hu i]; simp, fun o k => ?_⟩
  by_cases h : ∃ q, scatter_S8x192x216_S24x2_S24x192_1_02_02_1.resultIdx? q
      (concatenate S24x2 1 [⟨S24x1, a⟩, ⟨S24x1, b⟩] concatenates_S24x1_S24x1_S24x2_d1) = some (ix3 0 o k)
  · obtain ⟨q, hq⟩ := h
    exact Routing.scatter_set_hit _ x _ u _ 0 (fun k _ => hu k) q hq
  · refine (Routing.scatter_set_miss _ x _ u _ fun q hq => h ⟨q, hq⟩).trans ((hb o k).resolve_right ?_)
    rintro ⟨j, hj⟩
    refine h ⟨ix2 j o, (lands _ _ _).2 ⟨?_, rfl, ?_⟩⟩
    · refine Eq.trans (congrArg BitVec.toInt (pair_left a b j)) ?_
      exact ha j
    · refine Eq.trans (congrArg BitVec.toInt (pair_right a b j)) ?_
      exact hj

/-! ## The filters -/

theorem real_gather {s t si : Shape} {e : FTy} (d : GatherDims s si t) (x : FVec Ideal s e) (i : IVec si 32) (hx : AllReal x) :
    AllReal (Host.gather d x i) := fun _ => hx _
theorem real_slice {s t : Shape} {e : FTy} (off : Fin s.rank → Nat) (x : FVec Ideal s e) (h : s.Slices off t) (hx : AllReal x) :
    AllReal (extractStridedSlice t off x h) := fun _ => hx _
theorem real_pair (a : FVec Ideal S192x8 .f32) (b : FVec Ideal S192x16 .f32) (ha : AllReal a) (hb : AllReal b) :
    AllReal (concatenate S192x24 1 [⟨S192x8, a⟩, ⟨S192x16, b⟩] concatenates_S192x8_S192x16_S192x24_d1) := fun j =>
  concatenate_forall (P := fun y : EReal => y = (y.toReal : EReal)) _ _ _ _ (fun p hp => by
    simp only [List.mem_cons, List.not_mem_nil, or_false] at hp
    rcases hp with rfl | rfl
    · exact ha
    · exact hb) j

abbrev colDims := gather_S192x216_S24x1_S192x24_0_1_n_n_1_1_1921

/-- The gather of columns. -/
theorem gather_col (x : FVec Ideal S192x216 .f32) (idx : IVec S24x1 32) (o : Fin 192) (j : Fin 24) (k : Fin 216)
    (h : (idx (ix2 j 0)).toInt = (k.val : Int)) : Host.gather colDims x idx (ix2 o j) = x (ix2 o k) := by
  have hs : colDims.start (ix2 o j) idx 1 = min (idx (ix2 j 0)).toInt.toNat 215 := by
    unfold GatherDims.start
    rw [dif_pos (show (1 : Fin 2) ∈ colDims.startIndexMap from List.mem_singleton.mpr rfl)]
    have hs : colDims.siIdx (ix2 o j) ⟨List.idxOf (1 : Fin 2) colDims.startIndexMap,
        List.idxOf_lt_length_iff.2 (List.mem_singleton.mpr rfl)⟩ = (ix2 j 0 : S24x1.Idx) := by
      funext k; refine Fin.ext ?_
      match k with
      | ⟨0, _⟩ => rfl
      | ⟨1, _⟩ => rfl
    rw [hs]
    rfl
  have hn : colDims.start (ix2 o j) idx 0 = 0 := by
    unfold GatherDims.start
    rw [dif_neg (show (0 : Fin 2) ∉ colDims.startIndexMap by decide)]
  have hb : ∀ a, colDims.batchCoord (ix2 o j) a = 0 := fun a => GatherDims.batchCoord_eq_zero _ _ _ List.not_mem_nil
  have h1 : colDims.offCoord (ix2 o j) 1 = 0 :=
    GatherDims.offCoord_eq_zero _ _ _ (fun h => ((GatherDims.mem_sKept _ _).mp h).1 (List.mem_singleton.mpr rfl))
  have h0 : colDims.offCoord (ix2 o j) 0 = o.val := by rfl
  unfold Host.gather
  refine congrArg x ?_
  funext a
  refine Fin.ext ?_
  show colDims.start (ix2 o j) idx a + colDims.batchCoord (ix2 o j) a + colDims.offCoord (ix2 o j) a = _
  rw [hb]
  match a with
  | ⟨0, _⟩ =>
    refine (congrArg₂ (fun u v => u + 0 + v) hn h0).trans ?_
    show 0 + 0 + o.val = o.val
    omega
  | ⟨1, _⟩ =>
    refine (congrArg₂ (fun u v => u + 0 + v) hs h1).trans ?_
    show min (idx (ix2 j 0)).toInt.toNat 215 + 0 + 0 = k.val
    rw [h]; omega

/-- The filters as the host code first lays them out. -/
def base (ws : FVec Ideal S24x3 .f32) : FVec Ideal S8x192x216 .f32 :=
  extf .f32 (truncf .bf16 (shapeCast S8x192x216 (shapeCast S1536x216 (transpose S1536x9x24 [0, 2, 1] (shapeCast S1536x24x9
    (broadcastInDim S1536x24x3x3 ![0, 1, 2, 3] bcast_S1x24x1x3_S1536x24x3x3_0_1_2_3 (broadcastInDim S1x24x1x3 ![1, 3] bcast_S24x3_S1x24x1x3_1_3 ws))
    shapeCasts_S1536x24x3x3_S1536x24x9) transposes_S1536x24x9_S1536x9x24_0_2_1) shapeCasts_S1536x9x24_S1536x216) shapeCasts_S1536x216_S8x192x216)
    bitsLt_bf16_f32) bitsLt_bf16_f32

theorem base_at (ws : FVec Ideal S24x3 .f32) (g : Fin 8) (o : Fin 192) (k : Fin 216) :
    base ws (ix3 g o k) = ws (ix2 ⟨k.val % 24, by omega⟩ ⟨k.val / 24 % 3, by omega⟩) := by
  unfold base
  pointwise

theorem real_base (ws : FVec Ideal S24x3 .f32) (hw : AllReal ws) : AllReal (base ws) := fun _ => hw _

/-- One number, 24 times. -/
abbrev num (v : BitVec 32) : IVec S24x1 32 :=
  broadcastInDim S24x1 ![0] bcast_S24_S24x1_0 (broadcastInDim S24 ![] bcast_S_S24 (constantI S_ 32 v))
/-- A list of 24 columns. -/
abbrev ids (f : Fin 24 → BitVec 32) : IVec S24x1 32 :=
  broadcastInDim S24x1 ![0] bcast_S24_S24x1_0 (select (constantI S24 1 0#1)
    (addi (fun i => f (S24.rowMajor i)) (broadcastInDim S24 ![] bcast_S_S24 (constantI S_ 32 216#32))) fun i => f (S24.rowMajor i))

theorem num_at (v : BitVec 32) (j : Fin 24) : num v (ix2 j 0) = v := by pointwise
theorem ids_at (f : Fin 24 → BitVec 32) (j : Fin 24) : ids f (ix2 j 0) = f j := by
  pointwise
  exact congrArg f (Fin.ext (Shape.rowMajor_val_one _))

/-- The columns of one expert. -/
abbrev expert (off : Fin 3 → Nat) (h : S8x192x216.Slices off S1x192x216) (x : FVec Ideal S8x192x216 .f32) : FVec Ideal S192x216 .f32 :=
  shapeCast S192x216 (extractStridedSlice S1x192x216 off x h) shapeCasts_S1x192x216_S192x216
/-- Some of its columns. -/
abbrev columns (x : FVec Ideal S192x216 .f32) (idx : IVec S24x1 32) : FVec Ideal S24x192 .f32 :=
  transpose S24x192 [1, 0] (Host.gather colDims x idx) transposes_S192x24_S24x192_1_0

theorem columns_at (x : FVec Ideal S192x216 .f32) (f : Fin 24 → BitVec 32) (o : Fin 192) (j : Fin 24) (k : Fin 216)
    (h : (f j).toInt = (k.val : Int)) : columns x (ids f) (ix2 j o) = x (ix2 o k) := by
  refine Eq.trans ?_ (gather_col x (ids f) o j k ((congrArg BitVec.toInt (ids_at f j)).trans h))
  show Host.gather colDims x (ids f) _ = _
  refine congrArg _ ?_
  funext a
  fin_cases a <;> rfl

theorem expert_one (x : FVec Ideal S8x192x216 .f32) (o : Fin 192) (k : Fin 216) :
    expert ![1, 0, 0] slices_S8x192x216_S1x192x216_1_0_0 x (ix2 o k) = x (ix3 1 o k) := by
  pointwise

/-- Weights that are zero but in the first eight channels of the middle column. -/
def Thin (ws : FVec Ideal S24x3 .f32) : Prop := AllReal ws ∧ ∀ c t, (8 ≤ c.val ∨ t.val ≠ 1) → ws (ix2 c t) = 0

theorem first_kept (ws : FVec Ideal S24x3 .f32) (hw : Thin ws) :
    Kept (put (base ws) (num 0#32) (ids lit1) (columns (expert ![1, 0, 0] slices_S8x192x216_S1x192x216_1_0_0 (base ws)) (ids lit0))) := by
  refine first_put _ _ _ _ (fun j => congrArg BitVec.toInt (num_at 0#32 j)) (real_base ws hw.1) ?_ ?_
  · intro i
    obtain ⟨j, o, rfl⟩ : ∃ (j : Fin 24) (o : Fin 192), i = ix2 j o := ⟨i 0, i 1, by funext a; fin_cases a <;> rfl⟩
    obtain ⟨k, hk, hz⟩ : ∃ k : Fin 216, (lit0 j).toInt = (k.val : Int) ∧ k.val / 24 % 3 ≠ 1 := by
      revert j; decide +kernel
    rw [columns_at _ lit0 o j k hk, expert_one, base_at]
    exact hw.2 _ _ (Or.inr hz)
  · intro o k
    rw [base_at]
    by_cases h : k.val % 24 < 8 ∧ k.val / 24 % 3 = 1
    · refine Or.inr ?_
      obtain ⟨j, hj⟩ : ∃ j : Fin 24, (lit1 j).toInt = (k.val : Int) := by
        revert h; revert k; decide +kernel
      exact ⟨j, (congrArg BitVec.toInt (ids_at lit1 j)).trans hj⟩
    · refine Or.inl (hw.2 _ _ ?_)
      show 8 ≤ k.val % 24 ∨ k.val / 24 % 3 ≠ 1
      omega

theorem more_kept (v : BitVec 32) (hv : v.toInt ≠ 0) (x : FVec Ideal S8x192x216 .f32) (b : IVec S24x1 32) (u : FVec Ideal S24x192 .f32)
    (hu : AllReal u) (hx : Kept x) : Kept (put x (num v) b u) :=
  kept_put x (num v) b u (fun j => (congrArg BitVec.toInt (num_at v j)).trans_ne hv) hu hx

theorem real_columns (x : FVec Ideal S8x192x216 .f32) (hx : AllReal x) (off h) (idx : IVec S24x1 32) :
    AllReal (columns (expert off h x) idx) := fun _ => hx _
theorem real_mixed (x : FVec Ideal S8x192x216 .f32) (hx : AllReal x) (off h off' h') (i : IVec S8x1 32) (i' : IVec S16x1 32)
    (i'' : IVec S192x1 32) :
    AllReal (transpose S24x192 [1, 0] (Host.gather gather_S192x24_S192x1_S192x24_1_0_n_n_0_1_124
      (concatenate S192x24 1 [⟨S192x8, Host.gather gather_S192x216_S8x1_S192x8_0_1_n_n_1_1_1921 (expert off h x) i⟩,
        ⟨S192x16, Host.gather gather_S192x216_S16x1_S192x16_0_1_n_n_1_1_1921 (expert off' h' x) i'⟩]
        concatenates_S192x8_S192x16_S192x24_d1) i'') transposes_S192x24_S24x192_1_0) :=
  real_transpose (e := .f32) _ _ _ (real_gather (e := .f32) _ _ _ (real_pair _ _ (fun _ => hx _) (fun _ => hx _)))

/-- What the call is handed for its weights. -/
def Handed (z : FVec Ideal S1536x216 .bf16) : Prop :=
  ∃ y, Kept y ∧ z = truncf .bf16 (shapeCast S1536x216 y shapeCasts_S8x192x216_S1536x216) bitsLt_bf16_f32

set_option maxHeartbeats 0 in
/-- The weights after the twelve writes. -/
theorem host_kept (m : (ℓ : Loc nD τ sig) → Buf (Elt Ideal) ℓ) (c : Dev nD)
    (hw : Thin (m ((c : Thread nD τ).loc main_arg2))) : Handed (V m c main_v270 : Vec Ideal S1536x216 .bf16) := by
  have hb := real_base _ hw.1
  entry_read
  refine ⟨_, ?_, rfl⟩
  iterate 11
    refine more_kept _ (by decide) _ _ _ ?_ ?_
    · first
      | exact real_columns _ hb _ _ _
      | exact real_mixed _ hb _ _ _ _ _ _ _
  exact first_kept _ hw

theorem Handed.real {z : FVec Ideal S1536x216 .bf16} (h : Handed z) : AllReal z := by
  obtain ⟨y, hy, rfl⟩ := h
  exact fun _ => hy.1 _

theorem Handed.zero {z : FVec Ideal S1536x216 .bf16} (h : Handed z) (r : Fin 1536) (hr : r.val < 192) (k : Fin 216) : z (ix2 r k) = 0 := by
  obtain ⟨y, hy, rfl⟩ := h
  refine Eq.trans ?_ (hy.2 ⟨r.val, hr⟩ k)
  pointwise
  refine congrArg y ?_
  funext a
  refine Fin.ext ?_
  match a with
  | ⟨0, _⟩ => show r.val / 192 = 0; omega
  | ⟨1, _⟩ => show r.val % 192 = r.val; omega
  | ⟨2, _⟩ => rfl

end Cert.Moe.Whole

end
-- ==== Proof.WMath.lean ====
/-
  When the result of an image is zero, and when it is not.
-/
module

public import proofs.«01_k».proof.Proof.Spec

@[expose] public section

set_option maxRecDepth 16384

noncomputable section

namespace Cert.Moe.Whole

open Cert.Moe Idealize.ShloMosaic
open scoped BigOperators

/-- The logistic of a real number is positive and real. -/
theorem logistic_real (z : ℝ) : ∃ l : ℝ, 0 < l ∧ Ideal.logistic (z : EReal) = (l : EReal) := by
  exact ⟨(1 + Real.exp (-z))⁻¹, by positivity, Ideal.logistic_coe z⟩

theorem silu_zero : silu 0 = 0 := zero_mul _

theorem silu_real (z : ℝ) : ∃ y : ℝ, silu (z : EReal) = (y : EReal) ∧ (y = 0 → z = 0) := by
  obtain ⟨l, h0, h⟩ := logistic_real z
  refine ⟨z * l, by unfold silu; rw [h, EReal.coe_mul], fun h => ?_⟩
  exact (mul_eq_zero.1 h).resolve_right h0.ne'

/-! ## A convolution of zeros -/

theorem normed_zero (y : Fin 192 → Fin 3136 → ℝ) (a : Fin 192 → ℝ) (b : Fin 192 → EReal) (hy : ∀ c p, y c p = 0) (hb : ∀ c, b c = 0)
    (c : Fin 192) (p : Fin 3136) : normed y a b c p = 0 := by
  obtain rfl : y = fun _ _ => 0 := by funext c p; exact hy c p
  unfold normed gmean total
  rw [hb]
  simp

theorem moe_zero (X R W A B) (hc : ∀ e o p, conv (fun c p => (X c p).toReal) (fun r k => (W r k).toReal) e o p = 0) (hb : ∀ e c, B e c = 0)
    (o : Fin 192) (p : Fin 3136) : moe X R W A B o p = 0 := by
  unfold moe branch
  rw [normed_zero _ _ _ (hc _) (hb _), normed_zero _ _ _ (hc _) (hb _), silu_zero, mul_zero, mul_zero, add_zero]

/-- An image whose channels past the first 24 are zero: the convolutions of the later experts are zero. -/
theorem conv_later (x : Fin 192 → Fin 3136 → ℝ) (w : Fin 1536 → Fin 216 → ℝ) (hx : ∀ c p, 24 ≤ c.val → x c p = 0) (e : Fin 8) (he : e ≠ 0)
    (o : Fin 192) (p : Fin 3136) : conv x w e o p = 0 := by
  have h : e.val ≠ 0 := fun h => he (Fin.ext h)
  unfold conv
  refine Finset.sum_eq_zero fun t _ => Finset.sum_eq_zero fun c _ => ?_
  have : tap (x (chan e c)) t.val p.val = 0 := by
    unfold tap
    split
    · exact hx _ _ (by simp only [chan, cell]; omega)
    · rfl
  rw [this, mul_zero]

/-- Where the first expert's weights are zero too, so is its convolution. -/
theorem conv_zero (x : Fin 192 → Fin 3136 → ℝ) (w : Fin 1536 → Fin 216 → ℝ) (hx : ∀ c p, 24 ≤ c.val → x c p = 0)
    (hw : ∀ r k, r.val < 192 → w r k = 0) (e : Fin 8) (o : Fin 192) (p : Fin 3136) : conv x w e o p = 0 := by
  by_cases h : e = 0
  · subst h
    unfold conv
    refine Finset.sum_eq_zero fun t _ => Finset.sum_eq_zero fun c _ => ?_
    rw [hw _ _ (by simp only [wrow, cell, Fin.val_zero]; omega), zero_mul]
  · exact conv_later x w hx e h o p

/-! ## A convolution that is not constant -/

/-- A channel that is one everywhere: a tap reads one inside the image. -/
theorem tap_one (f : Fin 3136 → ℝ) (hf : ∀ p, f p = 1) (t p : Nat) : tap f t p = if tapIn t p then 1 else 0 := by
  unfold tap
  by_cases h : tapIn t p
  · rw [dif_pos h, if_pos h, hf]
  · rw [dif_neg h, if_neg h]

/-- Ones in the first 24 channels under the middle column of the first eight filters: eight times the number of rows
    that lie in the image. -/
theorem conv_count (x : Fin 192 → Fin 3136 → ℝ) (w : Fin 1536 → Fin 216 → ℝ) (hx : ∀ c p, c.val < 24 → x c p = 1)
    (hw : ∀ r (t : Fin 9) (c : Fin 24), w r (wcol t c) = if t.val % 3 = 1 ∧ c.val < 8 then 1 else 0) (o : Fin 192) (p : Fin 3136) :
    conv x w 0 o p = ∑ t : Fin 9, if t.val % 3 = 1 ∧ tapIn t.val p.val then 8 else 0 := by
  unfold conv
  refine Finset.sum_congr rfl fun t _ => ?_
  have h : ∀ c : Fin 24, w (wrow 0 o) (wcol t c) * tap (x (chan 0 c)) t.val p.val
      = if c.val < 8 then (if t.val % 3 = 1 ∧ tapIn t.val p.val then (1 : ℝ) else 0) else 0 := fun c => by
    rw [hw, tap_one _ fun q => hx _ _ (by simp only [chan, cell]; have := c.isLt; simp)]
    by_cases h1 : t.val % 3 = 1 <;> by_cases h2 : c.val < 8 <;> by_cases h3 : tapIn t.val p.val <;> simp [h1, h2, h3]
  simp only [h]
  by_cases h1 : t.val % 3 = 1 ∧ tapIn t.val p.val
  · simp only [if_pos h1]
    have hn : (Finset.univ.filter fun c : Fin 24 => c.val < 8).card = 8 := by decide +kernel
    rw [← Finset.sum_filter, Finset.sum_const, hn]
    norm_num
  · simp only [if_neg h1]; simp

theorem soft_alike (l : Fin 8 → EReal) (e e' : Fin 8) (h : l e = l e') : soft l e = soft l e' := by
  unfold soft; rw [h]

theorem soft_real (l : Fin 8 → EReal) (hl : ∀ e, ∃ r : ℝ, l e = r) (e : Fin 8) : ∃ r : ℝ, 0 < r ∧ soft l e = (r : EReal) := by
  choose r hr using hl
  have he : ∀ e, Ideal.exp (l e - Finset.univ.fold max ⊥ l) = ((Real.exp (r e - r (place l 0)) : ℝ) : EReal) := fun e => by
    rw [fold_max, hr, hr, ← EReal.coe_sub, exp_real]
  have hp : 0 < ∑ e, Real.exp (r e - r (place l 0)) := Finset.sum_pos (fun e _ => Real.exp_pos _) ⟨0, Finset.mem_univ _⟩
  refine ⟨_, div_pos (Real.exp_pos (r e - r (place l 0))) hp, ?_⟩
  unfold soft
  simp only [he]
  rw [← coe_sum, div_real _ _ hp.ne']

theorem gate_real (l : Fin 8 → EReal) (e : Fin 8) : ∃ r : ℝ, 0 < r ∧ gate l e = (r : EReal) := soft_real _ (fun e => clip_real _) e

theorem word_small : Ideal.ofBits .f32 897988541#32 = ((8796093 / 2 ^ 43 : ℝ) : EReal) := by
  simp [Ideal.ofBits, Ideal.ieee]; norm_num; rw [← EReal.coe_mul]; norm_num

/-- A router that scores every expert alike chooses expert 0 first. -/
theorem place_alike (q : Fin 8 → EReal) (h : ∀ e e', q e = q e') : place q 0 = 0 := by
  refine First.unique (place_first q) fun e' he => Or.inr ⟨h _ _, ?_⟩
  exact Fin.pos_of_ne_zero he

/-- The result at two pixels of one channel cannot both be zero where the first expert's convolution differs between them
    and the other experts' are zero. -/
theorem moe_differs (X R W A B) (hR : ∀ e i, R e i = 0) (hA : ∀ e c, A e c = 1) (hb : ∀ e c, B e c = 0)
    (hc : ∀ e o p, e ≠ 0 → conv (fun c p => (X c p).toReal) (fun r k => (W r k).toReal) e o p = 0) (o : Fin 192) (p p' : Fin 3136)
    (h : moe X R W A B o p = 0) (h' : moe X R W A B o p' = 0) :
    conv (fun c p => (X c p).toReal) (fun r k => (W r k).toReal) 0 o p = conv (fun c p => (X c p).toReal) (fun r k => (W r k).toReal) 0 o p' := by
  set l := score X R with hl
  have hs : ∀ e e', l e = l e' := fun e e' => by
    rw [hl]; unfold score; simp only [hR, zero_mul]
  have hg : ∀ e e', gate l e = gate l e' := fun e e' => soft_alike _ _ _ (congrArg clip (soft_alike l _ _ (hs e e')))
  have h0 : place (gate l) 0 = 0 := place_alike _ hg
  have h1 : place (gate l) 1 ≠ 0 := h0 ▸ place_ne (gate l)
  have hk : ∃ s : ℝ, s ≠ 0 ∧ share l 0 = (s : EReal) := by
    obtain ⟨a, ha, ea⟩ := gate_real l (place (gate l) 0)
    obtain ⟨b, hb, eb⟩ := gate_real l (place (gate l) 1)
    refine ⟨a / (a + b + 8796093 / 2 ^ 43), (div_pos ha (by positivity)).ne', ?_⟩
    unfold share
    rw [ea, eb, word_small, ← EReal.coe_add, ← EReal.coe_add, div_real _ _ (by positivity)]
  obtain ⟨s, hs0, hs1⟩ := hk
  set y := conv (fun c p => (X c p).toReal) (fun r k => (W r k).toReal) 0 with hy
  have key : ∀ q, moe X R W A B o q = 0 → y o q = gmean y (grp o) := fun q hq => by
    unfold moe branch at hq
    rw [← hl, h0, normed_zero _ _ _ (fun o p => hc _ o p h1) (hb _), silu_zero, mul_zero, add_zero, hs1, ← hy] at hq
    unfold normed at hq
    simp only [hb, add_zero, hA, EReal.toReal_one, mul_one] at hq
    obtain ⟨v, hv, hv0⟩ := silu_real ((y o q - gmean y (grp o)) * (Real.sqrt (gvar y (grp o) + tiny))⁻¹)
    rw [hv, ← EReal.coe_mul, ← EReal.coe_zero, EReal.coe_eq_coe_iff] at hq
    have := (mul_eq_zero.1 (hv0 ((mul_eq_zero.1 hq).resolve_left hs0))).resolve_right
      (inv_ne_zero (Real.sqrt_pos.2 (gvar_tiny y (grp o))).ne')
    linarith
  rw [key p h, key p' h']

end Cert.Moe.Whole

end
-- ==== Proof.WValue.lean ====
/-
  What the whole kernel's run leaves in its result array at the counterexample: zero in the first image. The call's body
  is the kernel's, so the block of a grid point is what KBlock.lean finds for the kernel at the same blocks of arguments.
-/
module

public import proofs.«01_k».proof.Proof.WFrame
public import proofs.«01_k».proof.Proof.WHost
public import proofs.«01_k».proof.Proof.WMath
public import proofs.«01_k».proof.Proof.KBlock
public import proofs.«01_k».proof.Proof.Frame
public import proofs.«01_k».proof.Proof.Args
public import Idealize.ShloMosaic.Lib.Pipeline.Value
public import Idealize.ShloMosaic.Lib.Claim

@[expose] public section

set_option maxRecDepth 16384

noncomputable section

namespace Cert.Moe.Whole

open Cert.WholeIdeal Cert.WholeIdeal.Gen
open Idealize.ShloMosaic Idealize.ShloMosaic.TcCoe Idealize.ShloMosaic.Tactic
open Idealize.ShloMosaic.Pipeline (Dat)
open scoped BigOperators

variable (H : Chosen Ideal) (m : (ℓ : Loc nD τ sig) → Buf (Elt Ideal) ℓ)

/-- The kernel's run of the body at the first grid point. -/
abbrev kernelRun (x0 : Vec Ideal S1x192x3136 .f32) (x1 : Vec Ideal S8x384 .f32) (x2 : Vec Ideal S1536x216 .bf16) (x3 x4 : Vec Ideal S192x8 .f32) :=
  let t : Fin KernelIdeal.cfg0.N := ⟨0, by decide⟩
  Cert.Moe.bodyRun H (0 : Dev 1) (KernelIdeal.grid0.coords t)
    (KernelIdeal.win0_0.stage (KernelIdeal.cfg0.slots t 0)) (KernelIdeal.Gen.hstage0_0 ((KernelIdeal.cfg0.slots t 0).cast KernelIdeal.Gen.nbuf0_0))
    (KernelIdeal.win0_1.stage (KernelIdeal.cfg0.slots t 1)) (KernelIdeal.Gen.hstage0_1 ((KernelIdeal.cfg0.slots t 1).cast KernelIdeal.Gen.nbuf0_1))
    (KernelIdeal.win0_2.stage (KernelIdeal.cfg0.slots t 2)) (KernelIdeal.Gen.hstage0_2 ((KernelIdeal.cfg0.slots t 2).cast KernelIdeal.Gen.nbuf0_2))
    (KernelIdeal.win0_3.stage (KernelIdeal.cfg0.slots t 3)) (KernelIdeal.Gen.hstage0_3 ((KernelIdeal.cfg0.slots t 3).cast KernelIdeal.Gen.nbuf0_3))
    (KernelIdeal.win0_4.stage (KernelIdeal.cfg0.slots t 4)) (KernelIdeal.Gen.hstage0_4 ((KernelIdeal.cfg0.slots t 4).cast KernelIdeal.Gen.nbuf0_4))
    (KernelIdeal.win0_5.stage (KernelIdeal.cfg0.slots t 5)) (KernelIdeal.Gen.hstage0_5 ((KernelIdeal.cfg0.slots t 5).cast KernelIdeal.Gen.nbuf0_5))
    (Memref.whole KernelIdeal.cc0_scratch0) (Memref.isWhole_whole _) (Memref.whole KernelIdeal.cc0_scratch1) (Memref.isWhole_whole _) x0 x1 x2 x3 x4

/-- The first grid point. -/
abbrev t0 : Fin cfg0.N := ⟨0, by decide⟩

theorem run_same (c : Dev nD) : (runAt H m c t0).1
    = (kernelRun H (iblk m c 0 t0) (iblk m c 1 t0) (iblk m c 2 t0) (iblk m c 3 t0) (iblk m c 4 t0)).1 := by
  sl_kernel_rfl

theorem index0 : win0_0.index t0 = ![0, 0, 0] := by decide +kernel
theorem index2 : win0_2.index t0 = ![0, 0] := by decide +kernel
theorem index3 : win0_3.index t0 = ![0, 0] := by decide +kernel
theorem index4 : win0_4.index t0 = ![0, 0] := by decide +kernel
theorem index5 : ∀ t : Fin cfg0.N, win0_5.index t = ![t.val, 0, 0] :=
  (by decide +kernel : ∀ t : Fin grid0.N, win0_5.index t = ![t.val, 0, 0])

theorem block0 (c : Dev nD) (k : Fin 192) (p : Fin 3136) :
    (iblk m c 0 t0 : Vec Ideal S1x192x3136 .f32) (ix3 0 k p) = (m ((c : Thread nD τ).loc main_arg0) : Vec Ideal S192 .f32) (ix1 k) := by
  have e : (iblk m c 0 t0 : Vec Ideal S1x192x3136 .f32) (ix3 0 k p) = (V m c main_v269 : Vec Ideal S4x192x3136 .f32) (ix3 0 k p) := by
    blk_ext [iblk, index0]
  rw [e]
  entry_read
  pointwise

theorem window2 (z : Vec Ideal S1536x216 .bf16) (r : Fin 1536) (k : Fin 216) :
    (((cfg0.win 2).blk t0).view.read (Elt Ideal) z : Vec Ideal S1536x216 .bf16) (ix2 r k) = z (ix2 r k) := by
  blk_ext [index2]

theorem block2 (c : Dev nD) (r : Fin 1536) (k : Fin 216) :
    (iblk m c 2 t0 : Vec Ideal S1536x216 .bf16) (ix2 r k) = (V m c main_v270 : Vec Ideal S1536x216 .bf16) (ix2 r k) := by
  exact window2 (V m c main_v270) r k

theorem block3 (c : Dev nD) (k : Fin 192) (e : Fin 8) :
    (iblk m c 3 t0 : Vec Ideal S192x8 .f32) (ix2 k e) = Ideal.ofBits .f32 0x3F800000#32 := by
  have f : (iblk m c 3 t0 : Vec Ideal S192x8 .f32) (ix2 k e) = (V m c main_v271 : Vec Ideal S192x8 .f32) (ix2 k e) := by
    blk_ext [iblk, index3]
  rw [f]
  entry_read
  pointwise

theorem block4 (c : Dev nD) (k : Fin 192) (e : Fin 8) :
    (iblk m c 4 t0 : Vec Ideal S192x8 .f32) (ix2 k e) = (0 : EReal) := by
  have f : (iblk m c 4 t0 : Vec Ideal S192x8 .f32) (ix2 k e) = (V m c main_v272 : Vec Ideal S192x8 .f32) (ix2 k e) := by
    blk_ext [iblk, index4]
  rw [f]
  entry_read
  pointwise

theorem word_one : Ideal.ofBits .f32 0x3F800000#32 = ((1 : ℝ) : EReal) := by
  simp [Ideal.ofBits, Ideal.ieee]; rw [← EReal.coe_mul]; norm_num

/-- The first block of the result. -/
theorem first_block (c : Dev nD) (hx : AllReal (m ((c : Thread nD τ).loc main_arg0) : Vec Ideal S192 .f32))
    (hz : ∀ k : Fin 192, 24 ≤ k.val → (m ((c : Thread nD τ).loc main_arg0) : Vec Ideal S192 .f32) (ix1 k) = (0 : EReal))
    (hw : Thin (m ((c : Thread nD τ).loc main_arg2))) (o : Fin 192) (p : Fin 3136) : outAt H m c t0 (ix3 0 o p) = 0 := by
  have hW := host_kept m c hw
  unfold outAt
  rw [run_same]
  refine (Cert.Moe.block_eq H (0 : Dev 1) _ _ _ _ _ _ _ _ _ _ _ _ _ _ _ _ _ _ _ _ _ _ (fun k q => ?_) (fun r k => ?_) (fun k e => ?_) o p).trans ?_
  · rw [block0]; exact hx _
  · rw [block2]; exact hW.real _
  · rw [block3, word_one]; rfl
  · refine moe_zero _ _ _ _ _ (fun e o p => conv_zero _ _ (fun k q hk => ?_) (fun r k hr => ?_) e o p) (fun e k => block4 m c k e) o p
    · refine (congrArg EReal.toReal ((block0 m c k q).trans (hz k hk))).trans EReal.toReal_zero
    · refine (congrArg EReal.toReal ((block2 m c r k).trans (hW.zero r hr k))).trans EReal.toReal_zero

/-- The first image of the result array. -/
theorem first_image (c : Dev nD) (hx : AllReal (m ((c : Thread nD τ).loc main_arg0) : Vec Ideal S192 .f32))
    (hz : ∀ k : Fin 192, 24 ≤ k.val → (m ((c : Thread nD τ).loc main_arg0) : Vec Ideal S192 .f32) (ix1 k) = (0 : EReal))
    (hw : Thin (m ((c : Thread nD τ).loc main_arg2))) (o : Fin 192) (p : Fin 3136) :
    ((pdat H m 0 c).arrAt 5 cfg0.N : Vec Ideal S4x192x3136 .f32) (ix3 0 o p) = (0 : EReal) := by
  have h : ((pdat H m 0 c).arrAt 5 cfg0.N : Vec Ideal S4x192x3136 .f32)
      = fun y => outAt H m c ⟨(y 0).val, (y 0).isLt.trans_le (le_of_eq N_0.symm)⟩ (ix3 0 (y 1) (y 2)) := by
    refine Dat.arrAt_eq_of_covers (pdat H m 0 c) 5 _ (by decide +kernel) fun t hf y => ?_
    obtain ⟨n, o, p, rfl⟩ : ∃ (n : Fin 1) (o : Fin 192) (p : Fin 3136), y = ix3 n o p := ⟨y 0, y 1, y 2, by funext a; fin_cases a <;> rfl⟩
    have e : ((cfg0.win 5).blk t).view.emb (ix3 n o p) = (ix3 ⟨t.val, t.isLt.trans_le (le_of_eq N_0)⟩ o p : S4x192x3136.Idx) := by
      funext a; refine Fin.ext ?_
      blk_simp [index5 t]
      fin_cases a
      · show t.val * 1 + n.val = t.val; omega
      · show 0 * 192 + o.val = o.val; omega
      · show 0 * 3136 + p.val = p.val; omega
    rw [e]
    obtain rfl : n = 0 := Subsingleton.elim _ _
    rw [after_5]
    refine (cast_eq _ _).trans (congrArg (outAt H m c t) ?_)
    funext a
    exact Fin.ext rfl
  rw [h]
  exact first_block H m c hx hz hw o p

end Cert.Moe.Whole

end
-- ==== Proof.WRef.lean ====
/-
  The whole reference: from the two small arrays it makes the arguments of the reference and is the reference from
  there on, so that its result is the one that RResult.lean finds.
-/
module

public import proofs.«01_k».proof.Proof.RResult
public import proofs.«01_k».proof.Proof.Gen.WholeReferenceIdeal.Run

@[expose] public section

set_option maxRecDepth 16384

noncomputable section

namespace Cert.Moe.Whole

open Cert.WholeReferenceIdeal Cert.WholeReferenceIdeal.Gen Cert.WholeReferenceIdeal.Value
open Idealize.ShloMosaic Idealize.ShloMosaic.TcCoe Idealize.ShloMosaic.Tactic Idealize.ShloMosaic.StableHlo
open Idealize.SL.Sem

/-- Zero, of any element type. -/
def zeroOf : (e : EltTy) → Elt Ideal e
  | .i1 => (0 : BitVec 1) | .i4 => (0 : BitVec 4) | .i8 => (0 : BitVec 8) | .i16 => (0 : BitVec 16) | .i32 => (0 : BitVec 32)
  | .i64 => (0 : BitVec 64) | .fp8e4m3 => (0 : EReal) | .fp8e5m2 => (0 : EReal) | .bf16 => (0 : EReal) | .f16 => (0 : EReal)
  | .f32 => (0 : EReal)

section
variable (xs : FVec Ideal S192 .f32) (r : FVec Ideal S8x384 .f32) (ws : FVec Ideal S24x3 .f32)

/-- The image, the filters and the two vectors of the normalisation, made from the small arrays. -/
def wideX : FVec Ideal S4x192x56x56 .f32 :=
  broadcastInDim S4x192x56x56 ![0, 1, 2, 3] bcast_S1x192x1x1_S4x192x56x56_0_1_2_3 (broadcastInDim S1x192x1x1 ![1] bcast_S192_S1x192x1x1_1 xs)
def wideW : FVec Ideal S1536x216 .f32 :=
  shapeCast S1536x216 (transpose S1536x3x3x24 [0, 2, 3, 1] (broadcastInDim S1536x24x3x3 ![0, 1, 2, 3] bcast_S1x24x1x3_S1536x24x3x3_0_1_2_3
    (broadcastInDim S1x24x1x3 ![1, 3] bcast_S24x3_S1x24x1x3_1_3 ws)) transposes_S1536x24x3x3_S1536x3x3x24_0_2_3_1) shapeCasts_S1536x3x3x24_S1536x216
def ones : FVec Ideal S8x192 .f32 := broadcastInDim S8x192 ![] bcast_S_S8x192 (constant S_ .f32 0x3F800000#32)
def zeros : FVec Ideal S8x192 .f32 := broadcastInDim S8x192 ![] bcast_S_S8x192 (constant S_ .f32 0x00000000#32)

/-- The reference's arrays with these arguments. -/
def made : Valuation Cert.ReferenceIdeal.τ Cert.ReferenceIdeal.sig (Elt Ideal) :=
  after [nullary Cert.ReferenceIdeal.main_arg0 (wideX xs), nullary Cert.ReferenceIdeal.main_arg1 r, nullary Cert.ReferenceIdeal.main_arg2 (wideW ws),
    nullary Cert.ReferenceIdeal.main_arg3 ones, nullary Cert.ReferenceIdeal.main_arg4 zeros] fun b _ => zeroOf b.ty.elt

theorem made_x : vx (made xs r ws) = wideX xs := by sl_kernel_rfl
theorem made_r : vr (made xs r ws) = r := by sl_kernel_rfl
theorem made_w : vw (made xs r ws) = wideW ws := by sl_kernel_rfl
theorem made_a : va (made xs r ws) = ones := by sl_kernel_rfl
theorem made_b : vb (made xs r ws) = zeros := by sl_kernel_rfl
end

theorem v57_same (V0 : Valuation τ sig (Elt Ideal)) : res_main_v57 V0
    = Cert.ReferenceIdeal.Value.res_main_v49 (made (V0 (Proc.devRef .tc main_arg0)) (V0 (Proc.devRef .tc main_arg1)) (V0 (Proc.devRef .tc main_arg2))) := by
  sl_kernel_rfl
theorem v174_same (V0 : Valuation τ sig (Elt Ideal)) : res_main_v174 V0
    = Cert.ReferenceIdeal.Value.res_main_v166 (made (V0 (Proc.devRef .tc main_arg0)) (V0 (Proc.devRef .tc main_arg1)) (V0 (Proc.devRef .tc main_arg2))) := by
  sl_kernel_rfl
theorem v242_same (V0 : Valuation τ sig (Elt Ideal)) : res_main_v242 V0
    = Cert.ReferenceIdeal.Value.res_main_v234 (made (V0 (Proc.devRef .tc main_arg0)) (V0 (Proc.devRef .tc main_arg1)) (V0 (Proc.devRef .tc main_arg2))) := by
  sl_kernel_rfl

/-- Every run of the whole reference ends with the result array at `result` of the arguments made. -/
theorem whole_reference_run (m : (ℓ : Loc nD τ sig) → Buf (Elt Ideal) ℓ) (ρ : Dev nD → PrngReg)
    (hx : ∀ c : Dev nD, AllReal (wideX (m ((c.tc : Thread nD τ).loc main_arg0))))
    (hw : ∀ c : Dev nD, AllReal (wideW (m ((c.tc : Thread nD τ).loc main_arg2)))) (ha : AllReal ones) :
    θ_run defs (onTc (τ := τ) (main (F := Ideal))) ⟨m, fun _ => 0, ρ⟩ fun r => ∀ c : Dev nD,
      r.2.mem ((c.tc : Thread nD τ).loc main_v253) = result (wideX (m ((c.tc : Thread nD τ).loc main_arg0)))
        (m ((c.tc : Thread nD τ).loc main_arg1)) (wideW (m ((c.tc : Thread nD τ).loc main_arg2))) ones zeros := by
  refine (θ_run defs _ _).mono (fun r h c => (h c).1.trans ?_) (run m ρ)
  have e := mixed_result (made (m ((c.tc : Thread nD τ).loc main_arg0)) (m ((c.tc : Thread nD τ).loc main_arg1)) (m ((c.tc : Thread nD τ).loc main_arg2)))
    (by rw [made_x]; exact hx c) (by rw [made_w]; exact hw c) (by rw [made_a]; exact ha)
  rw [made_x, made_r, made_w, made_a, made_b] at e
  refine Eq.trans ?_ e
  rw [v57_same, v174_same, v242_same]
  rfl

end Cert.Moe.Whole

end
-- ==== Proof.WDiffers.lean ====
/-
  The whole kernel does not compute the whole reference: at the counterexample the kernel's result is zero in the first
  image, and the reference's is not zero at one of the first pixels of two of its rows.
-/
module

public import proofs.«01_k».proof.Defs
public import proofs.«01_k».proof.Proof.WValue
public import proofs.«01_k».proof.Proof.WRef
public import proofs.«01_k».proof.Proof.KRouter

@[expose] public section

set_option maxRecDepth 16384

noncomputable section

namespace Cert.Moe.Whole

open Idealize.ShloMosaic Idealize.ShloMosaic.TcCoe Idealize.ShloMosaic.Tactic Idealize.SL.Sem
open scoped BigOperators

/-! ## The counterexample's arrays -/

theorem words0 : ∀ k : Fin 192, Cx_WholeIdeal.arg0_words k = if k.val < 24 then 0x3F800000#32 else 0#32 := by decide +kernel
theorem words1 : ∀ (e : Fin 8) (i : Fin 384), Cx_WholeIdeal.arg1_words e i = 0#32 := by decide +kernel
theorem words2 : ∀ (c : Fin 24) (t : Fin 3), Cx_WholeIdeal.arg2_words c t = if c.val < 8 ∧ t.val = 1 then 0x3F800000#32 else 0#32 := by
  decide +kernel

theorem word_zero : Ideal.ofBits .f32 0#32 = ((0 : ℝ) : EReal) := by
  simp [Ideal.ofBits, Ideal.ieee]

theorem bit (p : Prop) [Decidable p] : Ideal.ofBits .f32 (if p then 0x3F800000#32 else 0#32) = (((if p then 1 else 0 : ℝ)) : EReal) := by
  split
  · exact word_one
  · exact word_zero

abbrev xs : (⟨1, ![192]⟩ : Shape).Idx → EReal := Cx_WholeIdeal.arg0 (F := Ideal)
abbrev rs : (⟨2, ![8, 384]⟩ : Shape).Idx → EReal := Cx_WholeIdeal.arg1 (F := Ideal)
abbrev ws : (⟨2, ![24, 3]⟩ : Shape).Idx → EReal := Cx_WholeIdeal.arg2 (F := Ideal)

theorem xs_at (k : Fin 192) : xs (ix1 k) = ((if k.val < 24 then 1 else 0 : ℝ) : EReal) :=
  (congrArg (Ideal.ofBits .f32) (words0 k)).trans (bit _)
theorem rs_at (e : Fin 8) (i : Fin 384) : rs (ix2 e i) = 0 := (congrArg (Ideal.ofBits .f32) (words1 e i)).trans word_zero
theorem ws_at (c : Fin 24) (t : Fin 3) : ws (ix2 c t) = ((if c.val < 8 ∧ t.val = 1 then 1 else 0 : ℝ) : EReal) :=
  (congrArg (Ideal.ofBits .f32) (words2 c t)).trans (bit _)

theorem real_xs : AllReal xs := fun i => by
  obtain ⟨k, rfl⟩ : ∃ k : Fin 192, i = ix1 k := ⟨i 0, by funext a; fin_cases a; rfl⟩
  rw [xs_at, EReal.toReal_coe]
theorem real_ws : AllReal ws := fun i => by
  obtain ⟨c, t, rfl⟩ : ∃ (c : Fin 24) (t : Fin 3), i = ix2 c t := ⟨i 0, i 1, by funext a; fin_cases a <;> rfl⟩
  rw [ws_at, EReal.toReal_coe]

theorem thin_ws : Thin ws := by
  refine ⟨real_ws, fun c t h => (ws_at c t).trans ?_⟩
  rw [if_neg (by omega), EReal.coe_zero]

/-! ## The reference's arguments made from them -/

theorem pixels_at (n : Fin 4) (c : Fin 192) (p : Fin 3136) : pixels (wideX xs) n c p = xs (ix1 c) := by
  unfold pixels wideX
  pointwise

theorem real_wideX (x) (h : AllReal x) : AllReal (wideX x) := fun _ => h _
theorem real_wideW (x) (h : AllReal x) : AllReal (wideW x) := fun _ => h _

theorem tab_at (r : Fin 1536) (t : Fin 9) (c : Fin 24) : tab (wideW ws) r (wcol t c) = ws (ix2 c ⟨t.val % 3, by omega⟩) := by
  unfold tab wideW
  pointwise
  refine congrArg ws ?_
  have := c.isLt; have := t.isLt
  funext a
  refine Fin.ext ?_
  match a with
  | ⟨0, _⟩ => show (t.val * 24 + c.val) % 24 = c.val; omega
  | ⟨1, _⟩ => show (t.val * 24 + c.val) / 24 % 3 = t.val % 3; omega

theorem real_ones : AllReal ones := fun i => by
  show Ideal.ofBits .f32 0x3F800000#32 = ((Ideal.ofBits .f32 0x3F800000#32).toReal : EReal)
  rw [word_one]; rfl
theorem ones_at (e : Fin 8) (c : Fin 192) : tab ones e c = 1 := word_one
theorem zeros_at (e : Fin 8) (c : Fin 192) : tab zeros e c = 0 := word_zero

/-- The reference's result at the counterexample. -/
abbrev wanted := result (wideX xs) rs (wideW ws) ones zeros

/-- It is not zero at both of two pixels. -/
theorem wanted_ne (h : wanted (ix3 0 0 ⟨0, by norm_num⟩) = 0) (h' : wanted (ix3 0 0 ⟨56, by norm_num⟩) = 0) : False := by
  have hx : ∀ (c : Fin 192) (p : Fin 3136), (pixels (wideX xs) 0 c p).toReal = if c.val < 24 then 1 else 0 := fun c p => by
    rw [pixels_at, xs_at, EReal.toReal_coe]
  have e := moe_differs (pixels (wideX xs) 0) (tab rs) (tab (wideW ws)) (tab ones) (tab zeros) rs_at ones_at zeros_at
    (fun e o p he => conv_later _ _ (fun c p hc => by rw [hx, if_neg (by omega)]) e he o p) 0 ⟨0, by norm_num⟩ ⟨56, by norm_num⟩ h h'
  rw [conv_count _ _ (fun c p hc => by rw [hx, if_pos hc]) (fun r t c => by rw [tab_at, ws_at, EReal.toReal_coe]; simp only [and_comm]),
    conv_count _ _ (fun c p hc => by rw [hx, if_pos hc]) (fun r t c => by rw [tab_at, ws_at, EReal.toReal_coe]; simp only [and_comm])] at e
  norm_num [Fin.sum_univ_succ, tapIn] at e

/-! ## The disproof -/

theorem disproved : Cert.disproves_algebraic_WholeIdeal_WholeReferenceIdeal := fun m g m' g' hm hm' => by
  refine ⟨trivial, fun _ => wanted, ?_, ?_⟩
  · refine (θ_run _ _ _).mono (fun r h hall => ?_) (whole_run chosen m g)
    have h0 := (h 0).symm.trans (hall 0)
    have z : ∀ p : Fin 3136, wanted (ix3 0 0 p) = 0 := fun p => by
      refine (congrFun h0 (ix3 0 0 p)).symm.trans (first_image chosen m 0 ?_ ?_ ?_ 0 p)
      · rw [(hm 0).1]; exact real_xs
      · intro k hk
        rw [(hm 0).1]
        refine (xs_at k).trans ?_
        rw [if_neg (by omega), EReal.coe_zero]
      · rw [(hm 0).2.2]; exact thin_ws
    exact wanted_ne (z _) (z _)
  · refine (θ_run _ _ _).mono (fun r h c => (h c).trans ?_) (whole_reference_run m' g' (fun c => ?_) (fun c => ?_) real_ones)
    · rw [(hm' c).1, (hm c).1]; exact real_wideX _ real_xs
    · rw [(hm' c).2.2, (hm c).2.2]; exact real_wideW _ real_ws
    · rw [(hm' c).1, (hm' c).2.1, (hm' c).2.2, (hm c).1, (hm c).2.1, (hm c).2.2]

end Cert.Moe.Whole

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeIdeal.Frame
public import proofs.«01_k».proof.Proof.Gen.WholeReferenceIdeal
public import proofs.«01_k».proof.Proof.Gen.WholeReferenceIdeal.Run
public import proofs.«01_k».proof.Proof.KRouter
public import proofs.«01_k».proof.Proof.KResult
public import proofs.«01_k».proof.Proof.RResult
public import proofs.«01_k».proof.Proof.Finite
public import proofs.«01_k».proof.Proof.WDiffers
public import Idealize.ShloMosaic.Adequacy
public import Idealize.ShloMosaic.Init

@[expose] public section

set_option maxRecDepth 16384

noncomputable section

namespace Cert.Proof

open Idealize.ShloMosaic Idealize.SL.Sem Cert.KernelIdeal

/-- The idealized kernel runs, leaves its arguments and ends with every semaphore at zero. -/
theorem kernel_quiet : Cert.quiescent_KernelIdeal := fun m ρ _ => Cert.Moe.kernel_frame Cert.Moe.chosen m ρ

/-- The reference runs, leaves its arguments and ends with every semaphore at zero. -/
theorem reference_quiet : Cert.quiescent_ReferenceIdeal := fun m ρ _ =>
  (θ_run _ _ _).mono (fun r h => ⟨fun c => (h c).2, sem_eq_zero_of_no_sems (by decide) r.2⟩) (Cert.ReferenceIdeal.Value.run m ρ)

/-- Both compute the same function of the arguments. -/
theorem same : Cert.algebraic_KernelIdeal_ReferenceIdeal_pre_finite := fun m ρ m' ρ' hp hag => by
  have hx : ∀ c : Dev nD, Cert.Moe.AllReal (m ((c.tc : Thread nD τ).loc main_arg0)) := fun c => Cert.Moe.finite_image _ _ _ _ _ (hp c).1
  have hw : ∀ c : Dev nD, Cert.Moe.AllReal (m ((c.tc : Thread nD τ).loc main_arg2)) := fun c => Cert.Moe.finite_weights _ _ _ _ _ (hp c).2.1
  have ha : ∀ c : Dev nD, Cert.Moe.AllReal (m ((c.tc : Thread nD τ).loc main_arg3)) := fun c => Cert.Moe.finite_scale _ _ _ _ _ (hp c).2.2
  refine ⟨fun c => Cert.Moe.result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)), ?_, ?_⟩
  · exact (θ_run _ _ _).mono (fun r h c => ⟨(h c).1.trans (Cert.Moe.kernel_result Cert.Moe.chosen m c (hx c) (hw c) (ha c)), (h c).2⟩)
      (Cert.Moe.kernel_run Cert.Moe.chosen m ρ)
  · refine (θ_run _ _ _).mono (fun r h c => ⟨(h c).1.trans ?_, (h c).2⟩)
      (Cert.Moe.reference_run m' ρ' (fun c => ?_) (fun c => ?_) (fun c => ?_))
    · rw [(hag c).1]; exact hx c
    · rw [(hag c).2.2.1]; exact hw c
    · rw [(hag c).2.2.2.1]; exact ha c
    · rw [(hag c).1, (hag c).2.1, (hag c).2.2.1, (hag c).2.2.2.1, (hag c).2.2.2.2]

theorem claim : Cert.Claim := ⟨Cert.KernelIdeal.Gen.facts, Cert.ReferenceIdeal.Gen.facts, Cert.WholeIdeal.Gen.facts,
  Cert.WholeReferenceIdeal.Gen.facts, Cert.Pre_finite.Gen.facts,
  kernel_quiet, fun m ρ _ => kernel_quiet m ρ trivial, reference_quiet, fun m ρ _ => reference_quiet m ρ trivial, same, Cert.Moe.Whole.disproved⟩

end Cert.Proof

end
